-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v343) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x256x64x64 : Shape := ⟨4, ![8, 256, 64, 64]⟩
abbrev S18x256x3x3 : Shape := ⟨4, ![18, 256, 3, 3]⟩
abbrev S18 : Shape := ⟨1, ![18]⟩
abbrev S9x256x3x3 : Shape := ⟨4, ![9, 256, 3, 3]⟩
abbrev S9 : Shape := ⟨1, ![9]⟩
abbrev S256x256x3x3 : Shape := ⟨4, ![256, 256, 3, 3]⟩
abbrev S256 : Shape := ⟨1, ![256]⟩
abbrev S8x256x4096 : Shape := ⟨3, ![8, 256, 4096]⟩
abbrev S8x4096x256 : Shape := ⟨3, ![8, 4096, 256]⟩
abbrev S_ : Shape := ⟨0, ![]⟩
abbrev S8x4240x256 : Shape := ⟨3, ![8, 4240, 256]⟩
abbrev S27x256x3x3 : Shape := ⟨4, ![27, 256, 3, 3]⟩
abbrev S3x3x256x27 : Shape := ⟨4, ![3, 3, 256, 27]⟩
abbrev S9x256x27 : Shape := ⟨3, ![9, 256, 27]⟩
abbrev S27 : Shape := ⟨1, ![27]⟩
abbrev S1x27 : Shape := ⟨2, ![1, 27]⟩
abbrev S256x256x9 : Shape := ⟨3, ![256, 256, 9]⟩
abbrev S9x256x256 : Shape := ⟨3, ![9, 256, 256]⟩
abbrev S256x1 : Shape := ⟨2, ![256, 1]⟩
abbrev S1x4240x256 : Shape := ⟨3, ![1, 4240, 256]⟩
abbrev S1x256x4096 : Shape := ⟨3, ![1, 256, 4096]⟩
abbrev S1x256x512 : Shape := ⟨3, ![1, 256, 512]⟩
abbrev S9x8x512 : Shape := ⟨3, ![9, 8, 512]⟩
abbrev S256x512 : Shape := ⟨2, ![256, 512]⟩
abbrev S512x1 : Shape := ⟨2, ![512, 1]⟩
abbrev S1x528x256 : Shape := ⟨3, ![1, 528, 256]⟩
abbrev S528x256 : Shape := ⟨2, ![528, 256]⟩
abbrev S1x256x27 : Shape := ⟨3, ![1, 256, 27]⟩
abbrev S256x27 : Shape := ⟨2, ![256, 27]⟩
abbrev S528x27 : Shape := ⟨2, ![528, 27]⟩
abbrev S512x27 : Shape := ⟨2, ![512, 27]⟩
abbrev S27x512 : Shape := ⟨2, ![27, 512]⟩
abbrev S1x512 : Shape := ⟨2, ![1, 512]⟩
abbrev S64x1 : Shape := ⟨2, ![64, 1]⟩
abbrev S1x1x512 : Shape := ⟨3, ![1, 1, 512]⟩
abbrev S256x4096 : Shape := ⟨2, ![256, 4096]⟩
abbrev S1x3x512 : Shape := ⟨3, ![1, 3, 512]⟩
abbrev S3x512 : Shape := ⟨2, ![3, 512]⟩
abbrev S64x512 : Shape := ⟨2, ![64, 512]⟩
abbrev S64x1x512 : Shape := ⟨3, ![64, 1, 512]⟩
abbrev S64x64x512 : Shape := ⟨3, ![64, 64, 512]⟩
abbrev S1x64x512 : Shape := ⟨3, ![1, 64, 512]⟩
abbrev S4096x512 : Shape := ⟨2, ![4096, 512]⟩
abbrev S1x256x256 : Shape := ⟨3, ![1, 256, 256]⟩
abbrev S256x256 : Shape := ⟨2, ![256, 256]⟩

abbrev nBuf : Space → Nat
  | .hbm => 27
  | .vmem => 12
  | .smem => 0
  | _ => 0

abbrev bufTy : (tb : Table) → Fin (tcTables nBuf tb) → BufTy
  | .hbm, ⟨0, _⟩ => ⟨S8x256x64x64, .f32⟩
  | .hbm, ⟨1, _⟩ => ⟨S18x256x3x3, .f32⟩
  | .hbm, ⟨2, _⟩ => ⟨S18, .f32⟩
  | .hbm, ⟨3, _⟩ => ⟨S9x256x3x3, .f32⟩
  | .hbm, ⟨4, _⟩ => ⟨S9, .f32⟩
  | .hbm, ⟨5, _⟩ => ⟨S256x256x3x3, .f32⟩
  | .hbm, ⟨6, _⟩ => ⟨S256, .f32⟩
  | .hbm, ⟨7, _⟩ => ⟨S8x256x4096, .f32⟩
  | .hbm, ⟨8, _⟩ => ⟨S8x4096x256, .f32⟩
  | .hbm, ⟨9, _⟩ => ⟨S_, .i32⟩
  | .hbm, ⟨10, _⟩ => ⟨S_, .f32⟩
  | .hbm, ⟨11, _⟩ => ⟨S8x4240x256, .f32⟩
  | .hbm, ⟨12, _⟩ => ⟨S8x4240x256, .bf16⟩
  | .hbm, ⟨13, _⟩ => ⟨S8x256x4096, .f32⟩
  | .hbm, ⟨14, _⟩ => ⟨S8x256x4096, .bf16⟩
  | .hbm, ⟨15, _⟩ => ⟨S27x256x3x3, .f32⟩
  | .hbm, ⟨16, _⟩ => ⟨S3x3x256x27, .f32⟩
  | .hbm, ⟨17, _⟩ => ⟨S9x256x27, .f32⟩
  | .hbm, ⟨18, _⟩ => ⟨S9x256x27, .bf16⟩
  | .hbm, ⟨19, _⟩ => ⟨S27, .f32⟩
  | .hbm, ⟨20, _⟩ => ⟨S1x27, .f32⟩
  | .hbm, ⟨21, _⟩ => ⟨S256x256x9, .f32⟩
  | .hbm, ⟨22, _⟩ => ⟨S9x256x256, .f32⟩
  | .hbm, ⟨23, _⟩ => ⟨S9x256x256, .bf16⟩
  | .hbm, ⟨24, _⟩ => ⟨S256x1, .f32⟩
  | .hbm, ⟨25, _⟩ => ⟨S8x256x4096, .f32⟩
  | .hbm, ⟨26, _⟩ => ⟨S8x256x64x64, .f32⟩
  | .local _ .vmem, ⟨0, _⟩ => ⟨S1x4240x256, .bf16⟩
  | .local _ .vmem, ⟨1, _⟩ => ⟨S1x4240x256, .bf16⟩
  | .local _ .vmem, ⟨2, _⟩ => ⟨S1x256x4096, .bf16⟩
  | .local _ .vmem, ⟨3, _⟩ => ⟨S1x256x4096, .bf16⟩
  | .local _ .vmem, ⟨4, _⟩ => ⟨S9x256x27, .bf16⟩
  | .local _ .vmem, ⟨5, _⟩ => ⟨S1x27, .f32⟩
  | .local _ .vmem, ⟨6, _⟩ => ⟨S9x256x256, .bf16⟩
  | .local _ .vmem, ⟨7, _⟩ => ⟨S256x1, .f32⟩
  | .local _ .vmem, ⟨8, _⟩ => ⟨S1x256x512, .f32⟩
  | .local _ .vmem, ⟨9, _⟩ => ⟨S1x256x512, .f32⟩
  | .local _ .vmem, ⟨10, _⟩ => ⟨S9x8x512, .f32⟩
  | .local _ .vmem, ⟨11, _⟩ => ⟨S256x512, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32_3 : BitVec 32 := 0#32
  let v20 : BitVec 32 := Scalar.addi v0 c0_i32_3
  v20
def k0_off1 (i : grid0.Coords) (c0_i32_3 : BitVec 32) : Fin 3 → Nat :=
  let c0 : Index := 0#32
  let arg1 : BitVec 32 := BitVec.ofNat 32 (i 1).val
  let c512_i32 : BitVec 32 := 512#32
  let v0 : BitVec 32 := Scalar.muli arg1 c512_i32
  let v20 : BitVec 32 := Scalar.addi v0 c0_i32_3
  let v21 : BitVec 32 := v20
  let v22 : Index := Scalar.indexCast v21
  let c0_4 : Index := 0#32
  ![0, v22.toNat, 0]
def k0_mult2 (i : grid0.Coords) : BitVec 32 :=
  let arg1 : BitVec 32 := BitVec.ofNat 32 (i 1).val
  let c512_i32 : BitVec 32 := 512#32
  let v0 : BitVec 32 := Scalar.muli arg1 c512_i32
  let c64_i32_5 : BitVec 32 := 64#32
  let v25 : BitVec 32 := Scalar.addi v0 c64_i32_5
  v25
def k0_mult3 (i : grid0.Coords) : BitVec 32 :=
  let arg1 : BitVec 32 := BitVec.ofNat 32 (i 1).val
  let c512_i32 : BitVec 32 := 512#32
  let v0 : BitVec 32 := Scalar.muli arg1 c512_i32
  let c128_i32 : BitVec 32 := 128#32
  let v30 : BitVec 32 := Scalar.addi v0 c128_i32
  v30
@[reducible] def k0_t1_loop : Scf.Loop 32 :=
  let c0_i32_169 : BitVec 32 := 0#32
  let c9_i32 : BitVec 32 := 9#32
  let v338 : BitVec 32 := Scalar.addi c0_i32_169 c9_i32
  let c1_i32_170 : BitVec 32 := 1#32
  ⟨c0_i32_169, v338, c1_i32_170⟩
def k0_off2 (k0_t1 : Fin k0_t1_loop.trips) : Fin 3 → Nat :=
  let c0_i32_169 : BitVec 32 := 0#32
  let c1_i32_170 : BitVec 32 := 1#32
  let arg11 : BitVec 32 := Scf.iv c0_i32_169 c1_i32_170 k0_t1
  let v343 : Index := Scalar.indexCast arg11
  let c0_177 : Index := 0#32
  let c0_178 : Index := 0#32
  ![v343.toNat, 0, 0]
def k0_off3 (k0_t1 : Fin k0_t1_loop.trips) : Fin 3 → Nat :=
  let c0_i32_169 : BitVec 32 := 0#32
  let c1_i32_170 : BitVec 32 := 1#32
  let arg11 : BitVec 32 := Scf.iv c0_i32_169 c1_i32_170 k0_t1
  let v379 : Index := Scalar.indexCast arg11
  let c0_186 : Index := 0#32
  let c0_187 : Index := 0#32
  ![v379.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4240x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S9x256x27 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x27 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S9x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x256x64x64 : Shape := ⟨4, ![8, 256, 64, 64]⟩
abbrev S18x256x3x3 : Shape := ⟨4, ![18, 256, 3, 3]⟩
abbrev S18 : Shape := ⟨1, ![18]⟩
abbrev S9x256x3x3 : Shape := ⟨4, ![9, 256, 3, 3]⟩
abbrev S9 : Shape := ⟨1, ![9]⟩
abbrev S256x256x3x3 : Shape := ⟨4, ![256, 256, 3, 3]⟩
abbrev S256 : Shape := ⟨1, ![256]⟩
abbrev S_ : Shape := ⟨0, ![]⟩
abbrev S8x256x66x66 : Shape := ⟨4, ![8, 256, 66, 66]⟩
abbrev S18x256x1x1 : Shape := ⟨4, ![18, 256, 1, 1]⟩
abbrev S18x256 : Shape := ⟨2, ![18, 256]⟩
abbrev S8x64x64x18 : Shape := ⟨4, ![8, 64, 64, 18]⟩
abbrev S8x18x64x64 : Shape := ⟨4, ![8, 18, 64, 64]⟩
abbrev S1x18x1x1 : Shape := ⟨4, ![1, 18, 1, 1]⟩
abbrev S9x256x1x1 : Shape := ⟨4, ![9, 256, 1, 1]⟩
abbrev S9x256 : Shape := ⟨2, ![9, 256]⟩
abbrev S8x64x64x9 : Shape := ⟨4, ![8, 64, 64, 9]⟩
abbrev S8x9x64x64 : Shape := ⟨4, ![8, 9, 64, 64]⟩
abbrev S1x9x1x1 : Shape := ⟨4, ![1, 9, 1, 1]⟩
abbrev S8x9x2x64x64 : Shape := ⟨5, ![8, 9, 2, 64, 64]⟩
abbrev S8x9x1x64x64 : Shape := ⟨5, ![8, 9, 1, 64, 64]⟩
abbrev S64 : Shape := ⟨1, ![64]⟩
abbrev S1x1x64x1 : Shape := ⟨4, ![1, 1, 64, 1]⟩
abbrev S1x1x1x64 : Shape := ⟨4, ![1, 1, 1, 64]⟩
abbrev S8x256x4096 : Shape := ⟨3, ![8, 256, 4096]⟩
abbrev S8x36864 : Shape := ⟨2, ![8, 36864]⟩
abbrev S8x36864x1 : Shape := ⟨3, ![8, 36864, 1]⟩
abbrev S8x256x36864 : Shape := ⟨3, ![8, 256, 36864]⟩
abbrev S8x256x9x64x64 : Shape := ⟨5, ![8, 256, 9, 64, 64]⟩
abbrev S8x1x9x64x64 : Shape := ⟨5, ![8, 1, 9, 64, 64]⟩
abbrev S256x256x9 : Shape := ⟨3, ![256, 256, 9]⟩
abbrev S8x64x64x256 : Shape := ⟨4, ![8, 64, 64, 256]⟩
abbrev S1x256x1x1 : Shape := ⟨4, ![1, 256, 1, 1]⟩

abbrev nBuf : Space → Nat
  | .hbm => 412
  | .vmem => 0
  | .smem => 0
  | _ => 0

abbrev hbmTy0_0 (i : Nat) : BufTy := match i % 128 with
  | 0 => ⟨S8x256x64x64, .f32⟩
  | 1 => ⟨S18x256x3x3, .f32⟩
  | 2 => ⟨S18, .f32⟩
  | 3 => ⟨S9x256x3x3, .f32⟩
  | 4 => ⟨S9, .f32⟩
  | 5 => ⟨S256x256x3x3, .f32⟩
  | 6 => ⟨S256, .f32⟩
  | 7 => ⟨S_, .f32⟩
  | 8 => ⟨S8x256x66x66, .f32⟩
  | 9 => ⟨S18x256x1x1, .f32⟩
  | 10 => ⟨S18x256, .f32⟩
  | 11 => ⟨S8x256x64x64, .f32⟩
  | 12 => ⟨S8x64x64x18, .f32⟩
  | 13 => ⟨S8x18x64x64, .f32⟩
  | 14 => ⟨S18x256x1x1, .f32⟩
  | 15 => ⟨S18x256, .f32⟩
  | 16 => ⟨S8x256x64x64, .f32⟩
  | 17 => ⟨S8x64x64x18, .f32⟩
  | 18 => ⟨S8x18x64x64, .f32⟩
  | 19 => ⟨S8x18x64x64, .f32⟩
  | 20 => ⟨S18x256x1x1, .f32⟩
  | 21 => ⟨S18x256, .f32⟩
  | 22 => ⟨S8x256x64x64, .f32⟩
  | 23 => ⟨S8x64x64x18, .f32⟩
  | 24 => ⟨S8x18x64x64, .f32⟩
  | 25 => ⟨S8x18x64x64, .f32⟩
  | 26 => ⟨S18x256x1x1, .f32⟩
  | 27 => ⟨S18x256, .f32⟩
  | 28 => ⟨S8x256x64x64, .f32⟩
  | 29 => ⟨S8x64x64x18, .f32⟩
  | 30 => ⟨S8x18x64x64, .f32⟩
  | 31 => ⟨S8x18x64x64, .f32⟩
  | 32 => ⟨S18x256x1x1, .f32⟩
  | 33 => ⟨S18x256, .f32⟩
  | 34 => ⟨S8x256x64x64, .f32⟩
  | 35 => ⟨S8x64x64x18, .f32⟩
  | 36 => ⟨S8x18x64x64, .f32⟩
  | 37 => ⟨S8x18x64x64, .f32⟩
  | 38 => ⟨S18x256x1x1, .f32⟩
  | 39 => ⟨S18x256, .f32⟩
  | 40 => ⟨S8x256x64x64, .f32⟩
  | 41 => ⟨S8x64x64x18, .f32⟩
  | 42 => ⟨S8x18x64x64, .f32⟩
  | 43 => ⟨S8x18x64x64, .f32⟩
  | 44 => ⟨S18x256x1x1, .f32⟩
  | 45 => ⟨S18x256, .f32⟩
  | 46 => ⟨S8x256x64x64, .f32⟩
  | 47 => ⟨S8x64x64x18, .f32⟩
  | 48 => ⟨S8x18x64x64, .f32⟩
  | 49 => ⟨S8x18x64x64, .f32⟩
  | 50 => ⟨S18x256x1x1, .f32⟩
  | 51 => ⟨S18x256, .f32⟩
  | 52 => ⟨S8x256x64x64, .f32⟩
  | 53 => ⟨S8x64x64x18, .f32⟩
  | 54 => ⟨S8x18x64x64, .f32⟩
  | 55 => ⟨S8x18x64x64, .f32⟩
  | 56 => ⟨S18x256x1x1, .f32⟩
  | 57 => ⟨S18x256, .f32⟩
  | 58 => ⟨S8x256x64x64, .f32⟩
  | 59 => ⟨S8x64x64x18, .f32⟩
  | 60 => ⟨S8x18x64x64, .f32⟩
  | 61 => ⟨S8x18x64x64, .f32⟩
  | 62 => ⟨S1x18x1x1, .f32⟩
  | 63 => ⟨S8x18x64x64, .f32⟩
  | 64 => ⟨S8x18x64x64, .f32⟩
  | 65 => ⟨S_, .f32⟩
  | 66 => ⟨S8x256x66x66, .f32⟩
  | 67 => ⟨S9x256x1x1, .f32⟩
  | 68 => ⟨S9x256, .f32⟩
  | 69 => ⟨S8x256x64x64, .f32⟩
  | 70 => ⟨S8x64x64x9, .f32⟩
  | 71 => ⟨S8x9x64x64, .f32⟩
  | 72 => ⟨S9x256x1x1, .f32⟩
  | 73 => ⟨S9x256, .f32⟩
  | 74 => ⟨S8x256x64x64, .f32⟩
  | 75 => ⟨S8x64x64x9, .f32⟩
  | 76 => ⟨S8x9x64x64, .f32⟩
  | 77 => ⟨S8x9x64x64, .f32⟩
  | 78 => ⟨S9x256x1x1, .f32⟩
  | 79 => ⟨S9x256, .f32⟩
  | 80 => ⟨S8x256x64x64, .f32⟩
  | 81 => ⟨S8x64x64x9, .f32⟩
  | 82 => ⟨S8x9x64x64, .f32⟩
  | 83 => ⟨S8x9x64x64, .f32⟩
  | 84 => ⟨S9x256x1x1, .f32⟩
  | 85 => ⟨S9x256, .f32⟩
  | 86 => ⟨S8x256x64x64, .f32⟩
  | 87 => ⟨S8x64x64x9, .f32⟩
  | 88 => ⟨S8x9x64x64, .f32⟩
  | 89 => ⟨S8x9x64x64, .f32⟩
  | 90 => ⟨S9x256x1x1, .f32⟩
  | 91 => ⟨S9x256, .f32⟩
  | 92 => ⟨S8x256x64x64, .f32⟩
  | 93 => ⟨S8x64x64x9, .f32⟩
  | 94 => ⟨S8x9x64x64, .f32⟩
  | 95 => ⟨S8x9x64x64, .f32⟩
  | 96 => ⟨S9x256x1x1, .f32⟩
  | 97 => ⟨S9x256, .f32⟩
  | 98 => ⟨S8x256x64x64, .f32⟩
  | 99 => ⟨S8x64x64x9, .f32⟩
  | 100 => ⟨S8x9x64x64, .f32⟩
  | 101 => ⟨S8x9x64x64, .f32⟩
  | 102 => ⟨S9x256x1x1, .f32⟩
  | 103 => ⟨S9x256, .f32⟩
  | 104 => ⟨S8x256x64x64, .f32⟩
  | 105 => ⟨S8x64x64x9, .f32⟩
  | 106 => ⟨S8x9x64x64, .f32⟩
  | 107 => ⟨S8x9x64x64, .f32⟩
  | 108 => ⟨S9x256x1x1, .f32⟩
  | 109 => ⟨S9x256, .f32⟩
  | 110 => ⟨S8x256x64x64, .f32⟩
  | 111 => ⟨S8x64x64x9, .f32⟩
  | 112 => ⟨S8x9x64x64, .f32⟩
  | 113 => ⟨S8x9x64x64, .f32⟩
  | 114 => ⟨S9x256x1x1, .f32⟩
  | 115 => ⟨S9x256, .f32⟩
  | 116 => ⟨S8x256x64x64, .f32⟩
  | 117 => ⟨S8x64x64x9, .f32⟩
  | 118 => ⟨S8x9x64x64, .f32⟩
  | 119 => ⟨S8x9x64x64, .f32⟩
  | 120 => ⟨S1x9x1x1, .f32⟩
  | 121 => ⟨S8x9x64x64, .f32⟩
  | 122 => ⟨S8x9x64x64, .f32⟩
  | 123 => ⟨S8x9x64x64, .f32⟩
  | 124 => ⟨S8x9x64x64, .f32⟩
  | 125 => ⟨S_, .f32⟩
  | 126 => ⟨S8x9x64x64, .f32⟩
  | 127 => ⟨S8x9x64x64, .f32⟩
  | _ => ⟨S8x256x64x64, .f32⟩

abbrev hbmTy0_1 (i : Nat) : BufTy := match i % 128 with
  | 0 => ⟨S_, .f32⟩
  | 1 => ⟨S8x9x64x64, .f32⟩
  | 2 => ⟨S8x9x64x64, .f32⟩
  | 3 => ⟨S_, .f32⟩
  | 4 => ⟨S8x9x64x64, .f32⟩
  | 5 => ⟨S8x9x64x64, .f32⟩
  | 6 => ⟨S8x9x2x64x64, .f32⟩
  | 7 => ⟨S8x9x1x64x64, .f32⟩
  | 8 => ⟨S8x9x64x64, .f32⟩
  | 9 => ⟨S8x9x1x64x64, .f32⟩
  | 10 => ⟨S8x9x64x64, .f32⟩
  | 11 => ⟨S9, .i32⟩
  | 12 => ⟨S_, .i32⟩
  | 13 => ⟨S9, .i32⟩
  | 14 => ⟨S9, .i32⟩
  | 15 => ⟨S9, .f32⟩
  | 16 => ⟨S9, .i32⟩
  | 17 => ⟨S_, .i32⟩
  | 18 => ⟨S9, .i32⟩
  | 19 => ⟨S9, .i32⟩
  | 20 => ⟨S9, .f32⟩
  | 21 => ⟨S64, .i32⟩
  | 22 => ⟨S_, .i32⟩
  | 23 => ⟨S64, .i32⟩
  | 24 => ⟨S64, .i32⟩
  | 25 => ⟨S_, .i32⟩
  | 26 => ⟨S64, .i32⟩
  | 27 => ⟨S64, .i32⟩
  | 28 => ⟨S64, .f32⟩
  | 29 => ⟨S64, .i32⟩
  | 30 => ⟨S_, .i32⟩
  | 31 => ⟨S64, .i32⟩
  | 32 => ⟨S64, .i32⟩
  | 33 => ⟨S_, .i32⟩
  | 34 => ⟨S64, .i32⟩
  | 35 => ⟨S64, .i32⟩
  | 36 => ⟨S64, .f32⟩
  | 37 => ⟨S1x1x64x1, .f32⟩
  | 38 => ⟨S8x9x64x64, .f32⟩
  | 39 => ⟨S8x9x64x64, .f32⟩
  | 40 => ⟨S1x9x1x1, .f32⟩
  | 41 => ⟨S8x9x64x64, .f32⟩
  | 42 => ⟨S8x9x64x64, .f32⟩
  | 43 => ⟨S1x1x1x64, .f32⟩
  | 44 => ⟨S8x9x64x64, .f32⟩
  | 45 => ⟨S8x9x64x64, .f32⟩
  | 46 => ⟨S1x9x1x1, .f32⟩
  | 47 => ⟨S8x9x64x64, .f32⟩
  | 48 => ⟨S8x9x64x64, .f32⟩
  | 49 => ⟨S8x9x64x64, .f32⟩
  | 50 => ⟨S8x9x64x64, .f32⟩
  | 51 => ⟨S8x9x64x64, .f32⟩
  | 52 => ⟨S_, .f32⟩
  | 53 => ⟨S8x9x64x64, .f32⟩
  | 54 => ⟨S8x9x64x64, .f32⟩
  | 55 => ⟨S8x9x64x64, .f32⟩
  | 56 => ⟨S_, .f32⟩
  | 57 => ⟨S8x9x64x64, .f32⟩
  | 58 => ⟨S8x9x64x64, .f32⟩
  | 59 => ⟨S8x256x4096, .f32⟩
  | 60 => ⟨S8x9x64x64, .f32⟩
  | 61 => ⟨S_, .f32⟩
  | 62 => ⟨S8x9x64x64, .f32⟩
  | 63 => ⟨S8x9x64x64, .i1⟩
  | 64 => ⟨S_, .f32⟩
  | 65 => ⟨S8x9x64x64, .f32⟩
  | 66 => ⟨S8x9x64x64, .i1⟩
  | 67 => ⟨S8x9x64x64, .i1⟩
  | 68 => ⟨S_, .f32⟩
  | 69 => ⟨S8x9x64x64, .f32⟩
  | 70 => ⟨S8x9x64x64, .i1⟩
  | 71 => ⟨S8x9x64x64, .i1⟩
  | 72 => ⟨S_, .f32⟩
  | 73 => ⟨S8x9x64x64, .f32⟩
  | 74 => ⟨S8x9x64x64, .i1⟩
  | 75 => ⟨S8x9x64x64, .i1⟩
  | 76 => ⟨S_, .f32⟩
  | 77 => ⟨S8x9x64x64, .f32⟩
  | 78 => ⟨S8x9x64x64, .f32⟩
  | 79 => ⟨S_, .f32⟩
  | 80 => ⟨S8x9x64x64, .f32⟩
  | 81 => ⟨S8x9x64x64, .f32⟩
  | 82 => ⟨S8x9x64x64, .i32⟩
  | 83 => ⟨S_, .f32⟩
  | 84 => ⟨S8x9x64x64, .f32⟩
  | 85 => ⟨S8x9x64x64, .f32⟩
  | 86 => ⟨S_, .f32⟩
  | 87 => ⟨S8x9x64x64, .f32⟩
  | 88 => ⟨S8x9x64x64, .f32⟩
  | 89 => ⟨S8x9x64x64, .i32⟩
  | 90 => ⟨S_, .i32⟩
  | 91 => ⟨S8x9x64x64, .i32⟩
  | 92 => ⟨S8x9x64x64, .i32⟩
  | 93 => ⟨S8x9x64x64, .i32⟩
  | 94 => ⟨S8x36864, .i32⟩
  | 95 => ⟨S_, .i32⟩
  | 96 => ⟨S8x36864, .i32⟩
  | 97 => ⟨S8x36864, .i1⟩
  | 98 => ⟨S_, .i32⟩
  | 99 => ⟨S8x36864, .i32⟩
  | 100 => ⟨S8x36864, .i32⟩
  | 101 => ⟨S8x36864, .i32⟩
  | 102 => ⟨S8x36864x1, .i32⟩
  | 103 => ⟨S8x256x36864, .f32⟩
  | 104 => ⟨S8x256x9x64x64, .f32⟩
  | 105 => ⟨S8x9x64x64, .f32⟩
  | 106 => ⟨S8x9x64x64, .f32⟩
  | 107 => ⟨S8x1x9x64x64, .f32⟩
  | 108 => ⟨S8x256x9x64x64, .f32⟩
  | 109 => ⟨S8x256x9x64x64, .f32⟩
  | 110 => ⟨S_, .f32⟩
  | 111 => ⟨S8x9x64x64, .f32⟩
  | 112 => ⟨S8x9x64x64, .f32⟩
  | 113 => ⟨S8x9x64x64, .f32⟩
  | 114 => ⟨S_, .f32⟩
  | 115 => ⟨S8x9x64x64, .f32⟩
  | 116 => ⟨S8x9x64x64, .i1⟩
  | 117 => ⟨S_, .f32⟩
  | 118 => ⟨S8x9x64x64, .f32⟩
  | 119 => ⟨S8x9x64x64, .i1⟩
  | 120 => ⟨S8x9x64x64, .i1⟩
  | 121 => ⟨S_, .f32⟩
  | 122 => ⟨S8x9x64x64, .f32⟩
  | 123 => ⟨S8x9x64x64, .i1⟩
  | 124 => ⟨S8x9x64x64, .i1⟩
  | 125 => ⟨S_, .f32⟩
  | 126 => ⟨S8x9x64x64, .f32⟩
  | 127 => ⟨S8x9x64x64, .i1⟩
  | _ => ⟨S8x256x64x64, .f32⟩

abbrev hbmTy0_2 (i : Nat) : BufTy := match i % 128 with
  | 0 => ⟨S8x9x64x64, .i1⟩
  | 1 => ⟨S_, .f32⟩
  | 2 => ⟨S8x9x64x64, .f32⟩
  | 3 => ⟨S8x9x64x64, .f32⟩
  | 4 => ⟨S_, .f32⟩
  | 5 => ⟨S8x9x64x64, .f32⟩
  | 6 => ⟨S8x9x64x64, .f32⟩
  | 7 => ⟨S8x9x64x64, .i32⟩
  | 8 => ⟨S_, .f32⟩
  | 9 => ⟨S8x9x64x64, .f32⟩
  | 10 => ⟨S8x9x64x64, .f32⟩
  | 11 => ⟨S_, .f32⟩
  | 12 => ⟨S8x9x64x64, .f32⟩
  | 13 => ⟨S8x9x64x64, .f32⟩
  | 14 => ⟨S8x9x64x64, .i32⟩
  | 15 => ⟨S_, .i32⟩
  | 16 => ⟨S8x9x64x64, .i32⟩
  | 17 => ⟨S8x9x64x64, .i32⟩
  | 18 => ⟨S8x9x64x64, .i32⟩
  | 19 => ⟨S8x36864, .i32⟩
  | 20 => ⟨S_, .i32⟩
  | 21 => ⟨S8x36864, .i32⟩
  | 22 => ⟨S8x36864, .i1⟩
  | 23 => ⟨S_, .i32⟩
  | 24 => ⟨S8x36864, .i32⟩
  | 25 => ⟨S8x36864, .i32⟩
  | 26 => ⟨S8x36864, .i32⟩
  | 27 => ⟨S8x36864x1, .i32⟩
  | 28 => ⟨S8x256x36864, .f32⟩
  | 29 => ⟨S8x256x9x64x64, .f32⟩
  | 30 => ⟨S8x9x64x64, .f32⟩
  | 31 => ⟨S8x9x64x64, .f32⟩
  | 32 => ⟨S8x1x9x64x64, .f32⟩
  | 33 => ⟨S8x256x9x64x64, .f32⟩
  | 34 => ⟨S8x256x9x64x64, .f32⟩
  | 35 => ⟨S8x256x9x64x64, .f32⟩
  | 36 => ⟨S_, .f32⟩
  | 37 => ⟨S8x9x64x64, .f32⟩
  | 38 => ⟨S8x9x64x64, .f32⟩
  | 39 => ⟨S8x9x64x64, .f32⟩
  | 40 => ⟨S_, .f32⟩
  | 41 => ⟨S8x9x64x64, .f32⟩
  | 42 => ⟨S8x9x64x64, .i1⟩
  | 43 => ⟨S_, .f32⟩
  | 44 => ⟨S8x9x64x64, .f32⟩
  | 45 => ⟨S8x9x64x64, .i1⟩
  | 46 => ⟨S8x9x64x64, .i1⟩
  | 47 => ⟨S_, .f32⟩
  | 48 => ⟨S8x9x64x64, .f32⟩
  | 49 => ⟨S8x9x64x64, .i1⟩
  | 50 => ⟨S8x9x64x64, .i1⟩
  | 51 => ⟨S_, .f32⟩
  | 52 => ⟨S8x9x64x64, .f32⟩
  | 53 => ⟨S8x9x64x64, .i1⟩
  | 54 => ⟨S8x9x64x64, .i1⟩
  | 55 => ⟨S_, .f32⟩
  | 56 => ⟨S8x9x64x64, .f32⟩
  | 57 => ⟨S8x9x64x64, .f32⟩
  | 58 => ⟨S_, .f32⟩
  | 59 => ⟨S8x9x64x64, .f32⟩
  | 60 => ⟨S8x9x64x64, .f32⟩
  | 61 => ⟨S8x9x64x64, .i32⟩
  | 62 => ⟨S_, .f32⟩
  | 63 => ⟨S8x9x64x64, .f32⟩
  | 64 => ⟨S8x9x64x64, .f32⟩
  | 65 => ⟨S_, .f32⟩
  | 66 => ⟨S8x9x64x64, .f32⟩
  | 67 => ⟨S8x9x64x64, .f32⟩
  | 68 => ⟨S8x9x64x64, .i32⟩
  | 69 => ⟨S_, .i32⟩
  | 70 => ⟨S8x9x64x64, .i32⟩
  | 71 => ⟨S8x9x64x64, .i32⟩
  | 72 => ⟨S8x9x64x64, .i32⟩
  | 73 => ⟨S8x36864, .i32⟩
  | 74 => ⟨S_, .i32⟩
  | 75 => ⟨S8x36864, .i32⟩
  | 76 => ⟨S8x36864, .i1⟩
  | 77 => ⟨S_, .i32⟩
  | 78 => ⟨S8x36864, .i32⟩
  | 79 => ⟨S8x36864, .i32⟩
  | 80 => ⟨S8x36864, .i32⟩
  | 81 => ⟨S8x36864x1, .i32⟩
  | 82 => ⟨S8x256x36864, .f32⟩
  | 83 => ⟨S8x256x9x64x64, .f32⟩
  | 84 => ⟨S8x9x64x64, .f32⟩
  | 85 => ⟨S8x9x64x64, .f32⟩
  | 86 => ⟨S8x1x9x64x64, .f32⟩
  | 87 => ⟨S8x256x9x64x64, .f32⟩
  | 88 => ⟨S8x256x9x64x64, .f32⟩
  | 89 => ⟨S8x256x9x64x64, .f32⟩
  | 90 => ⟨S_, .f32⟩
  | 91 => ⟨S8x9x64x64, .f32⟩
  | 92 => ⟨S8x9x64x64, .f32⟩
  | 93 => ⟨S_, .f32⟩
  | 94 => ⟨S8x9x64x64, .f32⟩
  | 95 => ⟨S8x9x64x64, .f32⟩
  | 96 => ⟨S8x9x64x64, .f32⟩
  | 97 => ⟨S_, .f32⟩
  | 98 => ⟨S8x9x64x64, .f32⟩
  | 99 => ⟨S8x9x64x64, .i1⟩
  | 100 => ⟨S_, .f32⟩
  | 101 => ⟨S8x9x64x64, .f32⟩
  | 102 => ⟨S8x9x64x64, .i1⟩
  | 103 => ⟨S8x9x64x64, .i1⟩
  | 104 => ⟨S_, .f32⟩
  | 105 => ⟨S8x9x64x64, .f32⟩
  | 106 => ⟨S8x9x64x64, .i1⟩
  | 107 => ⟨S8x9x64x64, .i1⟩
  | 108 => ⟨S_, .f32⟩
  | 109 => ⟨S8x9x64x64, .f32⟩
  | 110 => ⟨S8x9x64x64, .i1⟩
  | 111 => ⟨S8x9x64x64, .i1⟩
  | 112 => ⟨S_, .f32⟩
  | 113 => ⟨S8x9x64x64, .f32⟩
  | 114 => ⟨S8x9x64x64, .f32⟩
  | 115 => ⟨S_, .f32⟩
  | 116 => ⟨S8x9x64x64, .f32⟩
  | 117 => ⟨S8x9x64x64, .f32⟩
  | 118 => ⟨S8x9x64x64, .i32⟩
  | 119 => ⟨S_, .f32⟩
  | 120 => ⟨S8x9x64x64, .f32⟩
  | 121 => ⟨S8x9x64x64, .f32⟩
  | 122 => ⟨S_, .f32⟩
  | 123 => ⟨S8x9x64x64, .f32⟩
  | 124 => ⟨S8x9x64x64, .f32⟩
  | 125 => ⟨S8x9x64x64, .i32⟩
  | 126 => ⟨S_, .i32⟩
  | 127 => ⟨S8x9x64x64, .i32⟩
  | _ => ⟨S8x256x64x64, .f32⟩

abbrev hbmTy0_3 (i : Nat) : BufTy := match i % 128 with
  | 0 => ⟨S8x9x64x64, .i32⟩
  | 1 => ⟨S8x9x64x64, .i32⟩
  | 2 => ⟨S8x36864, .i32⟩
  | 3 => ⟨S_, .i32⟩
  | 4 => ⟨S8x36864, .i32⟩
  | 5 => ⟨S8x36864, .i1⟩
  | 6 => ⟨S_, .i32⟩
  | 7 => ⟨S8x36864, .i32⟩
  | 8 => ⟨S8x36864, .i32⟩
  | 9 => ⟨S8x36864, .i32⟩
  | 10 => ⟨S8x36864x1, .i32⟩
  | 11 => ⟨S8x256x36864, .f32⟩
  | 12 => ⟨S8x256x9x64x64, .f32⟩
  | 13 => ⟨S8x9x64x64, .f32⟩
  | 14 => ⟨S8x9x64x64, .f32⟩
  | 15 => ⟨S8x1x9x64x64, .f32⟩
  | 16 => ⟨S8x256x9x64x64, .f32⟩
  | 17 => ⟨S8x256x9x64x64, .f32⟩
  | 18 => ⟨S8x256x9x64x64, .f32⟩
  | 19 => ⟨S8x1x9x64x64, .f32⟩
  | 20 => ⟨S8x256x9x64x64, .f32⟩
  | 21 => ⟨S8x256x9x64x64, .f32⟩
  | 22 => ⟨S256x256x9, .f32⟩
  | 23 => ⟨S8x64x64x256, .f32⟩
  | 24 => ⟨S8x256x64x64, .f32⟩
  | 25 => ⟨S1x256x1x1, .f32⟩
  | 26 => ⟨S8x256x64x64, .f32⟩
  | 27 => ⟨S8x256x64x64, .f32⟩
  | _ => ⟨S8x256x64x64, .f32⟩

abbrev hbmTy (i : Nat) : BufTy := match i / 128 with
  | 0 => hbmTy0_0 i
  | 1 => hbmTy0_1 i
  | 2 => hbmTy0_2 i
  | 3 => hbmTy0_3 i
  | _ => ⟨S8x256x64x64, .f32⟩

abbrev bufTy : (tb : Table) → Fin (tcTables nBuf tb) → BufTy
  | .hbm, ⟨i, _⟩ => hbmTy i
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_0 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_cst_1 : Ref sig .tc := ⟨.hbm, 125, rfl⟩
abbrev main_v116 : Ref sig .tc := ⟨.hbm, 126, rfl⟩
abbrev main_v117 : Ref sig .tc := ⟨.hbm, 127, rfl⟩
abbrev main_cst_2 : Ref sig .tc := ⟨.hbm, 128, rfl⟩
abbrev main_v118 : Ref sig .tc := ⟨.hbm, 129, rfl⟩
abbrev main_v119 : Ref sig .tc := ⟨.hbm, 130, rfl⟩
abbrev main_cst_3 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_c : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_c_4 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_c_5 : Ref sig .tc := ⟨.hbm, 150, rfl⟩
abbrev main_v136 : Ref sig .tc := ⟨.hbm, 151, rfl⟩
abbrev main_v137 : Ref sig .tc := ⟨.hbm, 152, rfl⟩
abbrev main_c_6 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_c_7 : Ref sig .tc := ⟨.hbm, 158, rfl⟩
abbrev main_v142 : Ref sig .tc := ⟨.hbm, 159, rfl⟩
abbrev main_v143 : Ref sig .tc := ⟨.hbm, 160, rfl⟩
abbrev main_c_8 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_cst_9 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_cst_10 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_cst_11 : Ref sig .tc := ⟨.hbm, 189, rfl⟩
abbrev main_v169 : Ref sig .tc := ⟨.hbm, 190, rfl⟩
abbrev main_v170 : Ref sig .tc := ⟨.hbm, 191, rfl⟩
abbrev main_cst_12 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_cst_13 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_cst_14 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_cst_15 : Ref sig .tc := ⟨.hbm, 204, rfl⟩
abbrev main_v180 : Ref sig .tc := ⟨.hbm, 205, rfl⟩
abbrev main_v181 : Ref sig .tc := ⟨.hbm, 206, rfl⟩
abbrev main_cst_16 : Ref sig .tc := ⟨.hbm, 207, rfl⟩
abbrev main_v182 : Ref sig .tc := ⟨.hbm, 208, rfl⟩
abbrev main_v183 : Ref sig .tc := ⟨.hbm, 209, rfl⟩
abbrev main_v184 : Ref sig .tc := ⟨.hbm, 210, rfl⟩
abbrev main_cst_17 : Ref sig .tc := ⟨.hbm, 211, rfl⟩
abbrev main_v185 : Ref sig .tc := ⟨.hbm, 212, rfl⟩
abbrev main_v186 : Ref sig .tc := ⟨.hbm, 213, rfl⟩
abbrev main_cst_18 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_c_19 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_c_20 : Ref sig .tc := ⟨.hbm, 223, rfl⟩
abbrev main_v194 : Ref sig .tc := ⟨.hbm, 224, rfl⟩
abbrev main_v195 : Ref sig .tc := ⟨.hbm, 225, rfl⟩
abbrev main_c_21 : Ref sig .tc := ⟨.hbm, 226, rfl⟩
abbrev main_v196 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_cst_22 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_cst_23 : Ref sig .tc := ⟨.hbm, 242, rfl⟩
abbrev main_v210 : Ref sig .tc := ⟨.hbm, 243, rfl⟩
abbrev main_v211 : Ref sig .tc := ⟨.hbm, 244, rfl⟩
abbrev main_cst_24 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_cst_25 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_cst_26 : Ref sig .tc := ⟨.hbm, 253, rfl⟩
abbrev main_v218 : Ref sig .tc := ⟨.hbm, 254, rfl⟩
abbrev main_v219 : Ref sig .tc := ⟨.hbm, 255, rfl⟩
abbrev main_v220 : Ref sig .tc := ⟨.hbm, 256, rfl⟩
abbrev main_cst_27 : Ref sig .tc := ⟨.hbm, 257, rfl⟩
abbrev main_v221 : Ref sig .tc := ⟨.hbm, 258, rfl⟩
abbrev main_v222 : Ref sig .tc := ⟨.hbm, 259, rfl⟩
abbrev main_cst_28 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_cst_29 : Ref sig .tc := ⟨.hbm, 264, rfl⟩
abbrev main_v226 : Ref sig .tc := ⟨.hbm, 265, rfl⟩
abbrev main_v227 : Ref sig .tc := ⟨.hbm, 266, rfl⟩
abbrev main_cst_30 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_c_31 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩
abbrev main_c_32 : Ref sig .tc := ⟨.hbm, 276, rfl⟩
abbrev main_v235 : Ref sig .tc := ⟨.hbm, 277, rfl⟩
abbrev main_v236 : Ref sig .tc := ⟨.hbm, 278, rfl⟩
abbrev main_c_33 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_cst_34 : Ref sig .tc := ⟨.hbm, 292, rfl⟩
abbrev main_v249 : Ref sig .tc := ⟨.hbm, 293, rfl⟩
abbrev main_v250 : Ref sig .tc := ⟨.hbm, 294, rfl⟩
abbrev main_v251 : Ref sig .tc := ⟨.hbm, 295, rfl⟩
abbrev main_cst_35 : Ref sig .tc := ⟨.hbm, 296, rfl⟩
abbrev main_v252 : Ref sig .tc := ⟨.hbm, 297, rfl⟩
abbrev main_v253 : Ref sig .tc := ⟨.hbm, 298, rfl⟩
abbrev main_cst_36 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_cst_37 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_cst_38 : Ref sig .tc := ⟨.hbm, 307, rfl⟩
abbrev main_v260 : Ref sig .tc := ⟨.hbm, 308, rfl⟩
abbrev main_v261 : Ref sig .tc := ⟨.hbm, 309, rfl⟩
abbrev main_v262 : Ref sig .tc := ⟨.hbm, 310, rfl⟩
abbrev main_cst_39 : Ref sig .tc := ⟨.hbm, 311, rfl⟩
abbrev main_v263 : Ref sig .tc := ⟨.hbm, 312, rfl⟩
abbrev main_v264 : Ref sig .tc := ⟨.hbm, 313, rfl⟩
abbrev main_cst_40 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_cst_41 : Ref sig .tc := ⟨.hbm, 318, rfl⟩
abbrev main_v268 : Ref sig .tc := ⟨.hbm, 319, rfl⟩
abbrev main_v269 : Ref sig .tc := ⟨.hbm, 320, rfl⟩
abbrev main_cst_42 : Ref sig .tc := ⟨.hbm, 321, rfl⟩
abbrev main_v270 : Ref sig .tc := ⟨.hbm, 322, rfl⟩
abbrev main_v271 : Ref sig .tc := ⟨.hbm, 323, rfl⟩
abbrev main_v272 : Ref sig .tc := ⟨.hbm, 324, rfl⟩
abbrev main_c_43 : Ref sig .tc := ⟨.hbm, 325, rfl⟩
abbrev main_v273 : Ref sig .tc := ⟨.hbm, 326, rfl⟩
abbrev main_v274 : Ref sig .tc := ⟨.hbm, 327, rfl⟩
abbrev main_v275 : Ref sig .tc := ⟨.hbm, 328, rfl⟩
abbrev main_v276 : Ref sig .tc := ⟨.hbm, 329, rfl⟩
abbrev main_c_44 : Ref sig .tc := ⟨.hbm, 330, rfl⟩
abbrev main_v277 : Ref sig .tc := ⟨.hbm, 331, rfl⟩
abbrev main_v278 : Ref sig .tc := ⟨.hbm, 332, rfl⟩
abbrev main_c_45 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_v282 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_cst_46 : Ref sig .tc := ⟨.hbm, 346, rfl⟩
abbrev main_v291 : Ref sig .tc := ⟨.hbm, 347, rfl⟩
abbrev main_v292 : Ref sig .tc := ⟨.hbm, 348, rfl⟩
abbrev main_cst_47 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_cst_48 : Ref sig .tc := ⟨.hbm, 353, rfl⟩
abbrev main_v296 : Ref sig .tc := ⟨.hbm, 354, rfl⟩
abbrev main_v297 : Ref sig .tc := ⟨.hbm, 355, rfl⟩
abbrev main_cst_49 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_cst_50 : Ref sig .tc := ⟨.hbm, 360, rfl⟩
abbrev main_v301 : Ref sig .tc := ⟨.hbm, 361, rfl⟩
abbrev main_v302 : Ref sig .tc := ⟨.hbm, 362, rfl⟩
abbrev main_v303 : Ref sig .tc := ⟨.hbm, 363, rfl⟩
abbrev main_cst_51 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_cst_52 : Ref sig .tc := ⟨.hbm, 368, rfl⟩
abbrev main_v307 : Ref sig .tc := ⟨.hbm, 369, rfl⟩
abbrev main_v308 : Ref sig .tc := ⟨.hbm, 370, rfl⟩
abbrev main_cst_53 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_cst_54 : Ref sig .tc := ⟨.hbm, 375, rfl⟩
abbrev main_v312 : Ref sig .tc := ⟨.hbm, 376, rfl⟩
abbrev main_v313 : Ref sig .tc := ⟨.hbm, 377, rfl⟩
abbrev main_cst_55 : Ref sig .tc := ⟨.hbm, 378, rfl⟩
abbrev main_v314 : Ref sig .tc := ⟨.hbm, 379, rfl⟩
abbrev main_v315 : Ref sig .tc := ⟨.hbm, 380, rfl⟩
abbrev main_v316 : Ref sig .tc := ⟨.hbm, 381, rfl⟩
abbrev main_c_56 : Ref sig .tc := ⟨.hbm, 382, rfl⟩
abbrev main_v317 : Ref sig .tc := ⟨.hbm, 383, rfl⟩
abbrev main_v318 : Ref sig .tc := ⟨.hbm, 384, rfl⟩
abbrev main_v319 : Ref sig .tc := ⟨.hbm, 385, rfl⟩
abbrev main_v320 : Ref sig .tc := ⟨.hbm, 386, rfl⟩
abbrev main_c_57 : Ref sig .tc := ⟨.hbm, 387, rfl⟩
abbrev main_v321 : Ref sig .tc := ⟨.hbm, 388, rfl⟩
abbrev main_v322 : Ref sig .tc := ⟨.hbm, 389, rfl⟩
abbrev main_c_58 : Ref sig .tc := ⟨.hbm, 390, rfl⟩
abbrev main_v323 : Ref sig .tc := ⟨.hbm, 391, rfl⟩
abbrev main_v324 : Ref sig .tc := ⟨.hbm, 392, rfl⟩
abbrev main_v325 : Ref sig .tc := ⟨.hbm, 393, rfl⟩
abbrev main_v326 : Ref sig .tc := ⟨.hbm, 394, rfl⟩
abbrev main_v327 : Ref sig .tc := ⟨.hbm, 395, rfl⟩
abbrev main_v328 : Ref sig .tc := ⟨.hbm, 396, rfl⟩
abbrev main_v329 : Ref sig .tc := ⟨.hbm, 397, rfl⟩
abbrev main_v330 : Ref sig .tc := ⟨.hbm, 398, rfl⟩
abbrev main_v331 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_v343 : Ref sig .tc := ⟨.hbm, 411, rfl⟩

abbrev nD : Nat := 1
abbrev τ : Topo := Topo.v7x

variable {F : FTy → Type} [FloatOps F]
-- ==== Proof.Ker.BodyRun.lean ====
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The body run once, on whole buffers: the inputs at their contents, the output's buffer and the
    two scratch buffers at any contents `f6`, `f9`, `f10`. The pieces written to the output's buffer
    are what the run finds; the parameter scratch is written in rows 0 to 2 of each of its nine slabs
    only, so they are stated as a function of the contents found there. -/
noncomputable def bodyRun (c : Dev nD) (i : grid0.Coords) (arg2 : Memref sig .tc .vmem S1x4240x256 .bf16) (harg2 : arg2.IsWhole) (arg3 : Memref sig .tc .vmem S1x256x4096 .bf16) (harg3 : arg3.IsWhole) (arg4 : Memref sig .tc .vmem S9x256x27 .bf16) (harg4 : arg4.IsWhole) (arg5 : Memref sig .tc .vmem S1x27 .f32) (harg5 : arg5.IsWhole) (arg6 : Memref sig .tc .vmem S9x256x256 .bf16) (harg6 : arg6.IsWhole) (arg7 : Memref sig .tc .vmem S256x1 .f32) (harg7 : arg7.IsWhole) (arg8 : Memref sig .tc .vmem S1x256x512 .f32) (harg8 : arg8.IsWhole) (arg9 : Memref sig .tc .vmem S9x8x512 .f32) (harg9 : arg9.IsWhole) (arg10 : Memref sig .tc .vmem S256x512 .f32) (harg10 : arg10.IsWhole)
    (x0 : Vec F S1x4240x256 .bf16) (x1 : Vec F S1x256x4096 .bf16) (x2 : Vec F S9x256x27 .bf16) (x3 : Vec F S1x27 .f32) (x4 : Vec F S9x256x256 .bf16) (x5 : Vec F S256x1 .f32)
    (f9 : BufTy.Contents (Elt F) arg9.view.ty) (f10 : BufTy.Contents (Elt F) arg10.view.ty) :
    { L6 : List (View.Piece (Elt F) S1x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (arg9.view.loc (c : Thread nD τ) ↦[arg9.view.set]{fullShare} f9) ∗ (arg10.view.loc (c : Thread nD τ) ↦[arg10.view.set]{fullShare} f10)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ d, owns (c : Thread nD τ) arg9 fullShare d) ∗ (∃ d, owns (c : Thread nD τ) arg10 fullShare d)) -∗ K ⟨⟩))
          ⊢ wp frame (wpE (defs₀ (F := F)) Variants.none c none) E (cc0_deform_conv2d_fused i arg2 harg2 arg3 harg3 arg4 harg4 arg5 harg5 arg6 harg6 arg7 harg7 arg8 harg8 arg9 harg9 arg10 harg10) K } := by
  refine ⟨?_, fun E K => ?run⟩
  case run =>
    simp only [cc0_deform_conv2d_fused_eq_skeleton]; unfold cc0_deform_conv2d_fused_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HS0, HS1, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step

    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _, _; isplitr; swap; · iexact HS0
      ipureintro; rfl
    iexists _, _; isplitr; swap; · iexact HS1
    ipureintro; rfl

end Cert.KernelIdeal.Body

end
-- ==== Proof.Ker.Terms.lean ====
module

public import proofs.«01_k».proof.Proof.Gen.KernelIdeal.Skeleton
public import Idealize.ShloMosaic.Lib.Pipeline.FrameBody

@[expose] public section

set_option maxRecDepth 16384

/-! # What one grid point computes, as a term over its input blocks

`bodyOut i x0 … x5` is what the body leaves in the output block at grid point `i`, composed of the
skeleton's payloads: no memory, no view. -/

noncomputable section

namespace Cert.KernelIdeal.Body

open Cert.KernelIdeal Cert.KernelIdeal.Gen
open Idealize.ShloMosaic Idealize.ShloMosaic.TcCoe

variable {F : FTy → Type} [FloatOps F]

/-- The first flat position of the tile: 512 times the second grid coordinate. -/
def tileBase (i : grid0.Coords) : BitVec 32 := Scalar.muli (BitVec.ofNat 32 (i 1).val) 512#32

/-- The rows of the padded input that the three kernel rows of the convolution read. -/
def xRows0 (i : grid0.Coords) (x0 : Vec F S1x4240x256 .bf16) : Vec F S1x528x256 .bf16 :=
  View.ld x0 (Rect.unit (s := S1x4240x256) (k0_off1 i 0#32) S1x528x256.size (k0_off1_inb i 0))
@[inherit_doc xRows0] def xRows1 (i : grid0.Coords) (x0 : Vec F S1x4240x256 .bf16) : Vec F S1x528x256 .bf16 :=
  View.ld x0 (Rect.unit (s := S1x4240x256) (k0_off1 i 64#32) S1x528x256.size (k0_off1_inb i 1))
@[inherit_doc xRows0] def xRows2 (i : grid0.Coords) (x0 : Vec F S1x4240x256 .bf16) : Vec F S1x528x256 .bf16 :=
  View.ld x0 (Rect.unit (s := S1x4240x256) (k0_off1 i 128#32) S1x528x256.size (k0_off1_inb i 2))

/-- The convolution's sum over the first two kernel columns. -/
def convHead (i : grid0.Coords) (x0 : Vec F S1x4240x256 .bf16) (x2 : Vec F S9x256x27 .bf16) : FVec F S512x27 .f32 :=
  k0_pay10 (k0_pay5 i) (k0_pay6 (xRows0 i x0)) (k0_pay7 (xRows1 i x0)) (k0_pay8 (xRows2 i x0))
    (k0_pay9 (xRows0 i x0) (View.ld x2 (Rect.unit (s := S9x256x27) ![0, 0, 0] S1x256x27.size inb_S9x256x27_S1x256x27_0_0_0)))
    (View.ld x2 (Rect.unit (s := S9x256x27) ![3, 0, 0] S1x256x27.size inb_S9x256x27_S1x256x27_3_0_0))
    (View.ld x2 (Rect.unit (s := S9x256x27) ![6, 0, 0] S1x256x27.size inb_S9x256x27_S1x256x27_6_0_0))
    (View.ld x2 (Rect.unit (s := S9x256x27) ![1, 0, 0] S1x256x27.size inb_S9x256x27_S1x256x27_1_0_0))
    (View.ld x2 (Rect.unit (s := S9x256x27) ![4, 0, 0] S1x256x27.size inb_S9x256x27_S1x256x27_4_0_0))
    (View.ld x2 (Rect.unit (s := S9x256x27) ![7, 0, 0] S1x256x27.size inb_S9x256x27_S1x256x27_7_0_0))

/-- The convolution of the tile, one row per channel of the offsets and the mask. -/
def convT (i : grid0.Coords) (x0 : Vec F S1x4240x256 .bf16) (x2 : Vec F S9x256x27 .bf16) (x3 : Vec F S1x27 .f32) : FVec F S27x512 .f32 :=
  k0_pay12 (k0_pay5 i) (k0_pay7 (xRows1 i x0)) (k0_pay8 (xRows2 i x0)) (convHead i x0 x2)
    (k0_pay11 (k0_pay6 (xRows0 i x0)) (View.ld x2 (Rect.unit (s := S9x256x27) ![2, 0, 0] S1x256x27.size inb_S9x256x27_S1x256x27_2_0_0)))
    (View.ld x2 (Rect.unit (s := S9x256x27) ![5, 0, 0] S1x256x27.size inb_S9x256x27_S1x256x27_5_0_0))
    (View.ld x2 (Rect.unit (s := S9x256x27) ![8, 0, 0] S1x256x27.size inb_S9x256x27_S1x256x27_8_0_0))
    (View.ld x3 (Rect.unit (s := S1x27) ![0, 0] S1x27.size inb_S1x27_S1x27_0_0))

/-- The image row of each of the tile's positions, as a float; -/
def rowNo (i : grid0.Coords) : FVec F S1x512 .f32 :=
  k0_pay17 (k0_pay14 (tileBase i)) (k0_pay15 (tileBase i)) k0_pay16

/-- and its image column. -/
def colNo (i : grid0.Coords) : FVec F S1x512 .f32 := k0_pay18 (k0_pay13 (tileBase i))

/-- The rows stored in the parameter scratch, last first: per tap `k` the sampling row (row 0), the
    sampling column (row 1) and the modulation (row 2). -/
def paramRows (i : grid0.Coords) (x0 : Vec F S1x4240x256 .bf16) (x2 : Vec F S9x256x27 .bf16) (x3 : Vec F S1x27 .f32) :
    List (View.Piece (Elt F) S9x8x512 .f32) :=
  [⟨Rect.unit (s := S9x8x512) ![8, 2, 0] S1x1x512.size inb_S9x8x512_S1x1x512_8_2_0, k0_pay52 (convT i x0 x2 x3)⟩,
    ⟨Rect.unit (s := S9x8x512) ![8, 1, 0] S1x1x512.size inb_S9x8x512_S1x1x512_8_1_0, k0_pay51 (convT i x0 x2 x3) (colNo i)⟩,
    ⟨Rect.unit (s := S9x8x512) ![8, 0, 0] S1x1x512.size inb_S9x8x512_S1x1x512_8_0_0, k0_pay50 (convT i x0 x2 x3) (rowNo i)⟩,
    ⟨Rect.unit (s := S9x8x512) ![7, 2, 0] S1x1x512.size inb_S9x8x512_S1x1x512_7_2_0, k0_pay49 (convT i x0 x2 x3)⟩,
    ⟨Rect.unit (s := S9x8x512) ![7, 1, 0] S1x1x512.size inb_S9x8x512_S1x1x512_7_1_0, k0_pay48 (k0_pay47 (convT i x0 x2 x3) (colNo i))⟩,
    ⟨Rect.unit (s := S9x8x512) ![7, 0, 0] S1x1x512.size inb_S9x8x512_S1x1x512_7_0_0, k0_pay46 (convT i x0 x2 x3) (rowNo i)⟩,
    ⟨Rect.unit (s := S9x8x512) ![6, 2, 0] S1x1x512.size inb_S9x8x512_S1x1x512_6_2_0, k0_pay45 (convT i x0 x2 x3)⟩,
    ⟨Rect.unit (s := S9x8x512) ![6, 1, 0] S1x1x512.size inb_S9x8x512_S1x1x512_6_1_0, k0_pay44 (convT i x0 x2 x3) (colNo i)⟩,
    ⟨Rect.unit (s := S9x8x512) ![6, 0, 0] S1x1x512.size inb_S9x8x512_S1x1x512_6_0_0, k0_pay43 (convT i x0 x2 x3) (rowNo i)⟩,
    ⟨Rect.unit (s := S9x8x512) ![5, 2, 0] S1x1x512.size inb_S9x8x512_S1x1x512_5_2_0, k0_pay42 (k0_pay41 (convT i x0 x2 x3))⟩,
    ⟨Rect.unit (s := S9x8x512) ![5, 1, 0] S1x1x512.size inb_S9x8x512_S1x1x512_5_1_0, k0_pay40 (convT i x0 x2 x3) (colNo i)⟩,
    ⟨Rect.unit (s := S9x8x512) ![5, 0, 0] S1x1x512.size inb_S9x8x512_S1x1x512_5_0_0, k0_pay39 (convT i x0 x2 x3) (rowNo i)⟩,
    ⟨Rect.unit (s := S9x8x512) ![4, 2, 0] S1x1x512.size inb_S9x8x512_S1x1x512_4_2_0, k0_pay38 (convT i x0 x2 x3)⟩,
    ⟨Rect.unit (s := S9x8x512) ![4, 1, 0] S1x1x512.size inb_S9x8x512_S1x1x512_4_1_0, k0_pay37 (convT i x0 x2 x3) (colNo i)⟩,
    ⟨Rect.unit (s := S9x8x512) ![4, 0, 0] S1x1x512.size inb_S9x8x512_S1x1x512_4_0_0, k0_pay36 (k0_pay35 (convT i x0 x2 x3) (rowNo i))⟩,
    ⟨Rect.unit (s := S9x8x512) ![3, 2, 0] S1x1x512.size inb_S9x8x512_S1x1x512_3_2_0, k0_pay34 (convT i x0 x2 x3)⟩,
    ⟨Rect.unit (s := S9x8x512) ![3, 1, 0] S1x1x512.size inb_S9x8x512_S1x1x512_3_1_0, k0_pay33 (convT i x0 x2 x3) (colNo i)⟩,
    ⟨Rect.unit (s := S9x8x512) ![3, 0, 0] S1x1x512.size inb_S9x8x512_S1x1x512_3_0_0, k0_pay32 (convT i x0 x2 x3) (rowNo i)⟩,
    ⟨Rect.unit (s := S9x8x512) ![2, 2, 0] S1x1x512.size inb_S9x8x512_S1x1x512_2_2_0, k0_pay31 (convT i x0 x2 x3)⟩,
    ⟨Rect.unit (s := S9x8x512) ![2, 1, 0] S1x1x512.size inb_S9x8x512_S1x1x512_2_1_0, k0_pay30 (k0_pay29 (convT i x0 x2 x3) (colNo i))⟩,
    ⟨Rect.unit (s := S9x8x512) ![2, 0, 0] S1x1x512.size inb_S9x8x512_S1x1x512_2_0_0, k0_pay28 (convT i x0 x2 x3) (rowNo i)⟩,
    ⟨Rect.unit (s := S9x8x512) ![1, 2, 0] S1x1x512.size inb_S9x8x512_S1x1x512_1_2_0, k0_pay27 (convT i x0 x2 x3)⟩,
    ⟨Rect.unit (s := S9x8x512) ![1, 1, 0] S1x1x512.size inb_S9x8x512_S1x1x512_1_1_0, k0_pay26 (convT i x0 x2 x3) (colNo i)⟩,
    ⟨Rect.unit (s := S9x8x512) ![1, 0, 0] S1x1x512.size inb_S9x8x512_S1x1x512_1_0_0, k0_pay25 (convT i x0 x2 x3) (rowNo i)⟩,
    ⟨Rect.unit (s := S9x8x512) ![0, 2, 0] S1x1x512.size inb_S9x8x512_S1x1x512_0_2_0, k0_pay24 (k0_pay23 (convT i x0 x2 x3))⟩,
    ⟨Rect.unit (s := S9x8x512) ![0, 1, 0] S1x1x512.size inb_S9x8x512_S1x1x512_0_1_0, k0_pay22 (convT i x0 x2 x3) (k0_pay13 (tileBase i))⟩,
    ⟨Rect.unit (s := S9x8x512) ![0, 0, 0] S1x1x512.size inb_S9x8x512_S1x1x512_0_0_0, k0_pay21 (convT i x0 x2 x3) (k0_pay14 (tileBase i)) (k0_pay15 (tileBase i)) k0_pay16⟩]

/-- Tap `k`'s parameters: rows 0, 1, 2 of slab `k`. -/
def params (i : grid0.Coords) (x0 : Vec F S1x4240x256 .bf16) (x2 : Vec F S9x256x27 .bf16) (x3 : Vec F S1x27 .f32)
    (k : Fin k0_t1_loop.trips) : Vec F S1x3x512 .f32 :=
  View.ld (View.canon (paramRows i x0 x2 x3)) (Rect.unit (s := S9x8x512) (k0_off2 k) S1x3x512.size (k0_off2_inb k))

/-- Tap `k`'s weights. -/
def tapW (x4 : Vec F S9x256x256 .bf16) (k : Fin k0_t1_loop.trips) : Vec F S1x256x256 .bf16 :=
  View.ld x4 (Rect.unit (s := S9x256x256) (k0_off3 k) S1x256x256.size (k0_off3_inb k))

/-- The accumulator before tap `n`. -/
def accAt (i : grid0.Coords) (x0 : Vec F S1x4240x256 .bf16) (x1 : Vec F S1x256x4096 .bf16) (x2 : Vec F S9x256x27 .bf16)
    (x3 : Vec F S1x27 .f32) (x4 : Vec F S9x256x256 .bf16) (x5 : Vec F S256x1 .f32) : ℕ → FVec F S256x512 .f32
  | 0 => k0_pay1 (k0_pay53 (View.ld x5 (Rect.unit (s := S256x1) ![0, 0] S256x1.size inb_S256x1_S256x1_0_0))) k0_pay54
  | n + 1 =>
    if h : n < k0_t1_loop.trips then
      k0_pay4 k0_pay19 k0_pay20 (k0_pay2 (View.ld x1 (Rect.unit (s := S1x256x4096) ![0, 0, 0] S1x256x4096.size inb_S1x256x4096_S1x256x4096_0_0_0)))
        (params i x0 x2 x3 ⟨n, h⟩) (accAt i x0 x1 x2 x3 x4 x5 n) (tapW x4 ⟨n, h⟩)
    else accAt i x0 x1 x2 x3 x4 x5 n

/-- The output block the body leaves. -/
def bodyOut (i : grid0.Coords) (x0 : Vec F S1x4240x256 .bf16) (x1 : Vec F S1x256x4096 .bf16) (x2 : Vec F S9x256x27 .bf16)
    (x3 : Vec F S1x27 .f32) (x4 : Vec F S9x256x256 .bf16) (x5 : Vec F S256x1 .f32) : Vec F S1x256x512 .f32 :=
  k0_pay3 (accAt i x0 x1 x2 x3 x4 x5 k0_t1_loop.trips)

end Cert.KernelIdeal.Body

end
-- ==== Proof.Ker.BodyNamed.lean ====
module

public import proofs.«01_k».proof.Proof.Ker.BodyRun
public import proofs.«01_k».proof.Proof.Ker.Terms
public import Idealize.ShloMosaic.Lib.Pipeline.Value
public import Idealize.ShloMosaic.Lib.Pointwise.Index

@[expose] public section

set_option maxRecDepth 16384

/-! # The contents the body leaves, without the scratch's prior contents -/

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- One trip writes one piece, the whole accumulator: the tap's contribution added to what it finds. -/
theorem trip_pieces (𝒱 : Variants) (bd : Option 𝒱.V) (c : Dev nD) (i : grid0.Coords) (arg2 : Memref sig .tc .vmem S1x4240x256 .bf16) (harg2 : arg2.IsWhole) (arg3 : Memref sig .tc .vmem S1x256x4096 .bf16) (harg3 : arg3.IsWhole) (arg4 : Memref sig .tc .vmem S9x256x27 .bf16) (harg4 : arg4.IsWhole) (arg5 : Memref sig .tc .vmem S1x27 .f32) (harg5 : arg5.IsWhole) (arg6 : Memref sig .tc .vmem S9x256x256 .bf16) (harg6 : arg6.IsWhole) (arg7 : Memref sig .tc .vmem S256x1 .f32) (harg7 : arg7.IsWhole) (arg8 : Memref sig .tc .vmem S1x256x512 .f32) (harg8 : arg8.IsWhole) (arg9 : Memref sig .tc .vmem S9x8x512 .f32) (harg9 : arg9.IsWhole) (arg10 : Memref sig .tc .vmem S256x512 .f32) (harg10 : arg10.IsWhole)
    (v136 : FVec F S64x1 .f32) (v138 : FVec F S64x1 .f32) (v336 : Vec F S1x256x4096 .bf16)
    (X6 : BufTy.Contents (Elt F) arg6.view.ty) (X9 : BufTy.Contents (Elt F) arg9.view.ty) (k : Fin k0_t1_loop.trips)
    (f : BufTy.Contents (Elt F) arg10.view.ty) :
    tripL_k0_t1 (F := F) 𝒱 c bd i arg2 harg2 arg3 harg3 arg4 harg4 arg5 harg5 arg6 harg6 arg7 harg7 arg8 harg8 arg9 harg9 arg10 harg10 v136 v138 v336 X6 X9 k f
      = [⟨Rect.unit (s := S256x512) ![0, 0] S256x512.size inb_S256x512_S256x512_0_0,
          k0_pay4 v136 v138 (k0_pay2 v336) (View.ld (arg9.view.read (Elt F) X9) (Rect.unit (s := S9x8x512) (k0_off2 k) S1x3x512.size (k0_off2_inb k)))
            (View.ld (arg10.view.read (Elt F) f) (Rect.unit (s := S256x512) ![0, 0] S256x512.size inb_S256x512_S256x512_0_0))
            (View.ld (arg6.view.read (Elt F) X6) (Rect.unit (s := S9x256x256) (k0_off3 k) S1x256x256.size (k0_off3_inb k)))⟩] := by
  unfold tripL_k0_t1 trip_k0_t1
  rfl

/-- The accumulator after `n` trips, whatever the parameter scratch held outside the rows written. -/
theorem acc_pieces (c : Dev nD) (i : grid0.Coords) (arg2 : Memref sig .tc .vmem S1x4240x256 .bf16) (harg2 : arg2.IsWhole) (arg3 : Memref sig .tc .vmem S1x256x4096 .bf16) (harg3 : arg3.IsWhole) (arg4 : Memref sig .tc .vmem S9x256x27 .bf16) (harg4 : arg4.IsWhole) (arg5 : Memref sig .tc .vmem S1x27 .f32) (harg5 : arg5.IsWhole) (arg6 : Memref sig .tc .vmem S9x256x256 .bf16) (harg6 : arg6.IsWhole) (arg7 : Memref sig .tc .vmem S256x1 .f32) (harg7 : arg7.IsWhole) (arg8 : Memref sig .tc .vmem S1x256x512 .f32) (harg8 : arg8.IsWhole) (arg9 : Memref sig .tc .vmem S9x8x512 .f32) (harg9 : arg9.IsWhole) (arg10 : Memref sig .tc .vmem S256x512 .f32) (harg10 : arg10.IsWhole)
    (x0 : Vec F S1x4240x256 .bf16) (x1 : Vec F S1x256x4096 .bf16) (x2 : Vec F S9x256x27 .bf16) (x3 : Vec F S1x27 .f32) (x4 : Vec F S9x256x256 .bf16) (x5 : Vec F S256x1 .f32)
    (X6 : BufTy.Contents (Elt F) arg6.view.ty) (X9 : BufTy.Contents (Elt F) arg9.view.ty)
    (h6 : arg6.view.read (Elt F) X6 = x4)
    (h9 : ∀ k : Fin k0_t1_loop.trips, View.ld (arg9.view.read (Elt F) X9) (Rect.unit (s := S9x8x512) (k0_off2 k) S1x3x512.size (k0_off2_inb k)) = params i x0 x2 x3 k)
    (L0 : List (View.Piece (Elt F) S256x512 .f32)) (hL0 : View.canon L0 = accAt i x0 x1 x2 x3 x4 x5 0) (n : ℕ) (hn : n ≤ k0_t1_loop.trips) :
    View.canon (pb_k0_t1 (F := F) Variants.none c none i arg2 harg2 arg3 harg3 arg4 harg4 arg5 harg5 arg6 harg6 arg7 harg7 arg8 harg8 arg9 harg9 arg10 harg10 k0_pay19 k0_pay20
      (View.ld x1 (Rect.unit (s := S1x256x4096) ![0, 0, 0] S1x256x4096.size inb_S1x256x4096_S1x256x4096_0_0_0)) X6 X9
      (arg10.view.writes (Elt F) arg10.view.junk L0) n ++ L0) = accAt i x0 x1 x2 x3 x4 x5 n := by
  induction n with
  | zero => exact hL0
  | succ n ih =>
    have h := ih (by omega)
    rw [pb_k0_t1_succ (k := ⟨n, by omega⟩), trip_pieces]
    simp only [List.cons_append, List.nil_append]
    rw [View.canon_cons_unit_zero (by funext a; fin_cases a <;> rfl), accAt, dif_pos (by omega), h6, h9,
      View.ld_unit_zero (S := S256x512) (by funext a; fin_cases a <;> rfl), ← View.writes_append,
      View.read_writes_junk_eq_canon, h]
    rfl

/-- Position (a, b, t) lies in the row stored at (a, b). -/
theorem mem_row (a b : ℕ) (y : S9x8x512.Idx) (h0 : (y 0).val = a) (h1 : (y 1).val = b)
    (inb : ∀ x, (![a, b, 0] : Fin 3 → ℕ) x + S1x1x512.size x ≤ S9x8x512.size x) :
    y ∈ (Rect.unit (s := S9x8x512) ![a, b, 0] S1x1x512.size inb).set := by
  refine (LoadRect.mem_set _).mpr fun x => ?_
  fin_cases x
  · exact ⟨0, Nat.zero_lt_one, h0⟩
  · exact ⟨0, Nat.zero_lt_one, h1⟩
  · exact ⟨(y 2).val, (y 2).isLt, by show (y 2).val = 0 + 1 * (y 2).val; omega⟩

/-- Rows 0, 1, 2 of every slab are stored. -/
theorem rows_cover (i : grid0.Coords) (x0 : Vec F S1x4240x256 .bf16) (x2 : Vec F S9x256x27 .bf16) (x3 : Vec F S1x27 .f32)
    (y : S9x8x512.Idx) (a : Fin 9) (b : Fin 3) (h0 : (y 0).val = a.val) (h1 : (y 1).val = b.val) :
    ∃ p ∈ paramRows i x0 x2 x3, y ∈ p.1.set := by
  refine ⟨(paramRows i x0 x2 x3)[26 - (3 * a.val + b.val)]'(by show _ < 27; omega), List.getElem_mem _, ?_⟩
  fin_cases a <;> fin_cases b <;> exact mem_row _ _ y h0 h1 (by decide)

/-- A trip's load of the parameter scratch reads the rows stored, whatever was there before. -/
theorem params_read {s : Space} (v : View sig .tc s S9x8x512 .f32) (f : v.ty.Contents (Elt F)) (i : grid0.Coords) (x0 : Vec F S1x4240x256 .bf16)
    (x2 : Vec F S9x256x27 .bf16) (x3 : Vec F S1x27 .f32) (k : Fin k0_t1_loop.trips) :
    View.ld (v.read (Elt F) (v.writes (Elt F) f (paramRows i x0 x2 x3))) (Rect.unit (s := S9x8x512) (k0_off2 k) S1x3x512.size (k0_off2_inb k))
      = params i x0 x2 x3 k := by
  funext j
  refine View.read_writes_apply_eq_canon v f _ _ ?_
  refine rows_cover i x0 x2 x3 _ ⟨_, ((Rect.unit (s := S9x8x512) (k0_off2 k) S1x3x512.size (k0_off2_inb k)).idx j 0).isLt⟩ (j 1) rfl ?_
  show 0 + 1 * (j 1).val = (j 1).val
  omega

/-- The run's name for the convolution is `convT`. -/
theorem conv_eq (c : Dev nD) (i : grid0.Coords) (arg2 : Memref sig .tc .vmem S1x4240x256 .bf16) (harg2 : arg2.IsWhole)
    (arg4 : Memref sig .tc .vmem S9x256x27 .bf16) (harg4 : arg4.IsWhole) (arg5 : Memref sig .tc .vmem S1x27 .f32) (harg5 : arg5.IsWhole)
    (x0 : Vec F S1x4240x256 .bf16) (x2 : Vec F S9x256x27 .bf16) (x3 : Vec F S1x27 .f32) :
    bodyRun.sl.r_7 c i arg2 harg2 arg4 harg4 arg5 harg5 x0 x2 x3 = convT i x0 x2 x3 := by
  simp only [bodyRun.sl.r_7, bodyRun.sl.r_6, bodyRun.sl.r_5, bodyRun.sl.r_4, bodyRun.sl.r_3, bodyRun.sl.r_2, bodyRun.sl.r_1,
    bodyRun.sl.r, View.readAt_eq_ld, harg2.read_unread, harg4.read_unread, harg5.read_unread]
  rfl

theorem bodyRun_pieces (c : Dev nD) (i : grid0.Coords) (arg2 : Memref sig .tc .vmem S1x4240x256 .bf16) (harg2 : arg2.IsWhole) (arg3 : Memref sig .tc .vmem S1x256x4096 .bf16) (harg3 : arg3.IsWhole) (arg4 : Memref sig .tc .vmem S9x256x27 .bf16) (harg4 : arg4.IsWhole) (arg5 : Memref sig .tc .vmem S1x27 .f32) (harg5 : arg5.IsWhole) (arg6 : Memref sig .tc .vmem S9x256x256 .bf16) (harg6 : arg6.IsWhole) (arg7 : Memref sig .tc .vmem S256x1 .f32) (harg7 : arg7.IsWhole) (arg8 : Memref sig .tc .vmem S1x256x512 .f32) (harg8 : arg8.IsWhole) (arg9 : Memref sig .tc .vmem S9x8x512 .f32) (harg9 : arg9.IsWhole) (arg10 : Memref sig .tc .vmem S256x512 .f32) (harg10 : arg10.IsWhole)
    (x0 : Vec F S1x4240x256 .bf16) (x1 : Vec F S1x256x4096 .bf16) (x2 : Vec F S9x256x27 .bf16) (x3 : Vec F S1x27 .f32) (x4 : Vec F S9x256x256 .bf16) (x5 : Vec F S256x1 .f32)
    (f9 : BufTy.Contents (Elt F) arg9.view.ty) (f10 : BufTy.Contents (Elt F) arg10.view.ty) :
    View.canon (bodyRun c i arg2 harg2 arg3 harg3 arg4 harg4 arg5 harg5 arg6 harg6 arg7 harg7 arg8 harg8 arg9 harg9 arg10 harg10 x0 x1 x2 x3 x4 x5 f9 f10).1 = bodyOut i x0 x1 x2 x3 x4 x5 := by
  unfold bodyRun
  dsimp only
  refine (View.canon_cons_unit_zero (by funext a; fin_cases a <;> rfl) _ _ _).trans ?_
  unfold bodyRun.sl.v339
  rw [View.readCov_eq_canon']
  simp only [View.readAt_eq_ld, harg3.read_unread, bodyRun.sl.r_17, bodyRun.sl.r_16, bodyRun.sl.r_15, bodyRun.sl.r_14, bodyRun.sl.r_13,
    conv_eq]
  refine congrArg k0_pay3 ((View.ld_unit_zero (S := S256x512) (by funext a; fin_cases a <;> rfl) _ _).trans ?_)
  refine acc_pieces _ _ _ _ _ _ _ _ _ _ _ _ _ _ _ _ _ _ _ _ x0 x1 x2 x3 x4 x5 _ _ (harg6.read_unread _)
    (fun k => params_read arg9.view f9 i x0 x2 x3 k) _ ?_ _ le_rfl
  unfold bodyRun.sl.HS1_1 bodyRun.sl.r_18
  simp only [View.readAt_eq_ld, harg7.read_unread]
  exact View.canon_cons_unit_zero (by funext a; fin_cases a <;> rfl) _ _ _

end Cert.KernelIdeal.Body

end
-- ==== Proof.Ker.Launch.lean ====
module

public import proofs.«01_k».proof.Proof.Ker.BodyNamed
public import Idealize.ShloMosaic.Lib.Pipeline.FrameBody
public import Idealize.ShloMosaic.Lib.Pipeline.FrameSuffix
public import Idealize.ShloMosaic.Lib.Claim

@[expose] public section

set_option maxRecDepth 16384

/-! # The launch: every point's body, and the frame

The set-up of the launch around the body's term `bodyOut`: the proof data, the body's obligation at a
generic point, the run of `@main`, and the frame. -/

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pieces the run finds cover the output block: there is one, the whole of it. -/
theorem bodyRun_cover (c : Dev nD) (i : grid0.Coords) (arg2 : Memref sig .tc .vmem S1x4240x256 .bf16) (harg2 : arg2.IsWhole) (arg3 : Memref sig .tc .vmem S1x256x4096 .bf16) (harg3 : arg3.IsWhole) (arg4 : Memref sig .tc .vmem S9x256x27 .bf16) (harg4 : arg4.IsWhole) (arg5 : Memref sig .tc .vmem S1x27 .f32) (harg5 : arg5.IsWhole) (arg6 : Memref sig .tc .vmem S9x256x256 .bf16) (harg6 : arg6.IsWhole) (arg7 : Memref sig .tc .vmem S256x1 .f32) (harg7 : arg7.IsWhole) (arg8 : Memref sig .tc .vmem S1x256x512 .f32) (harg8 : arg8.IsWhole) (arg9 : Memref sig .tc .vmem S9x8x512 .f32) (harg9 : arg9.IsWhole) (arg10 : Memref sig .tc .vmem S256x512 .f32) (harg10 : arg10.IsWhole)
    (x0 : Vec F S1x4240x256 .bf16) (x1 : Vec F S1x256x4096 .bf16) (x2 : Vec F S9x256x27 .bf16) (x3 : Vec F S1x27 .f32) (x4 : Vec F S9x256x256 .bf16) (x5 : Vec F S256x1 .f32)
    (f9 : BufTy.Contents (Elt F) arg9.view.ty) (f10 : BufTy.Contents (Elt F) arg10.view.ty) (y : S1x256x512.Idx) :
    ∃ pc ∈ (bodyRun c i arg2 harg2 arg3 harg3 arg4 harg4 arg5 harg5 arg6 harg6 arg7 harg7 arg8 harg8 arg9 harg9 arg10 harg10 x0 x1 x2 x3 x4 x5 f9 f10).1, y ∈ pc.1.set :=
  View.cover_of_tiledL (bodyRun c i arg2 harg2 arg3 harg3 arg4 harg4 arg5 harg5 arg6 harg6 arg7 harg7 arg8 harg8 arg9 harg9 arg10 harg10 x0 x1 x2 x3 x4 x5 f9 f10).1 S1x256x512.size (by sl_kernel_rfl) y

/-- The body's triple with the output named: on whole buffers, the inputs at their contents and the rest
    at anything, the body leaves the inputs as they were and `bodyOut` in the output's buffer. -/
theorem bodyRun_named (c : Dev nD) (i : grid0.Coords) (arg2 : Memref sig .tc .vmem S1x4240x256 .bf16) (harg2 : arg2.IsWhole) (arg3 : Memref sig .tc .vmem S1x256x4096 .bf16) (harg3 : arg3.IsWhole) (arg4 : Memref sig .tc .vmem S9x256x27 .bf16) (harg4 : arg4.IsWhole) (arg5 : Memref sig .tc .vmem S1x27 .f32) (harg5 : arg5.IsWhole) (arg6 : Memref sig .tc .vmem S9x256x256 .bf16) (harg6 : arg6.IsWhole) (arg7 : Memref sig .tc .vmem S256x1 .f32) (harg7 : arg7.IsWhole) (arg8 : Memref sig .tc .vmem S1x256x512 .f32) (harg8 : arg8.IsWhole) (arg9 : Memref sig .tc .vmem S9x8x512 .f32) (harg9 : arg9.IsWhole) (arg10 : Memref sig .tc .vmem S256x512 .f32) (harg10 : arg10.IsWhole)
    (x0 : Vec F S1x4240x256 .bf16) (x1 : Vec F S1x256x4096 .bf16) (x2 : Vec F S9x256x27 .bf16) (x3 : Vec F S1x27 .f32) (x4 : Vec F S9x256x256 .bf16) (x5 : Vec F S256x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (bodyOut i x0 x1 x2 x3 x4 x5) ∗ (∃ d, owns (c : Thread nD τ) arg9 fullShare d) ∗ (∃ d, owns (c : Thread nD τ) arg10 fullShare d)) -∗ K ⟨⟩))
          ⊢ wp frame (wpE (defs₀ (F := F)) Variants.none c none) E (cc0_deform_conv2d_fused i arg2 harg2 arg3 harg3 arg4 harg4 arg5 harg5 arg6 harg6 arg7 harg7 arg8 harg8 arg9 harg9 arg10 harg10) K := by
  unfold owns
  iintro ⟨H0, H1, H2, H3, H4, H5, H6, ⟨%d9, %f9, -, HS0⟩, ⟨%d10, %f10, -, HS1⟩, Hk⟩
  iapply ((bodyRun c i arg2 harg2 arg3 harg3 arg4 harg4 arg5 harg5 arg6 harg6 arg7 harg7 arg8 harg8 arg9 harg9 arg10 harg10 x0 x1 x2 x3 x4 x5 f9 f10).2 E K)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  iintro ⟨H0, H1, H2, H3, H4, H5, ⟨%e6, H6⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro
    rw [View.read_writes_eq_canon _ _ _ (bodyRun_cover c i arg2 harg2 arg3 harg3 arg4 harg4 arg5 harg5 arg6 harg6 arg7 harg7 arg8 harg8 arg9 harg9 arg10 harg10 x0 x1 x2 x3 x4 x5 f9 f10), bodyRun_pieces]
  isplitl [HS0]; · iexact HS0
  iexact HS1

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x4240x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9x256x27 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x27 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S9x256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256x512 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S9x8x512 .f32 := Memref.whole cc0_scratch0
abbrev scM0_1 : Memref sig .tc .vmem S256x512 .f32 := Memref.whole cc0_scratch1

/-- The frame kit's invariant with the scratch operands as memrefs owned at some contents : what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the outputs hold after each point -/

/-- What the output's staging buffer holds after the body at point `t`: the body's term at the point's
    input blocks. -/
def outsAt0 (c : Dev nD) (t : Fin cfg0.N) : Vec F S1x256x512 .f32 :=
  bodyOut (grid0.coords t) (iblk m c 0 t) (iblk m c 1 t) (iblk m c 2 t) (iblk m c 3 t) (iblk m c 4 t) (iblk m c 5 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq]
  unfold outsAt0
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (bodyRun_named c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — it needs nothing of the values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Body

end
-- ==== Proof.Ref.Frame.lean ====
module

public import proofs.«01_k».proof.Defs
public import proofs.«01_k».proof.Proof.Gen.ReferenceIdeal.Run

@[expose] public section

/-! # The reference's frame

The reference declares no semaphore, so its counters are trivially at zero; its arguments end unchanged
by its run. -/

noncomputable section

namespace Cert.ReferenceIdeal.Hand

open Cert.ReferenceIdeal Idealize.ShloMosaic Idealize.ShloMosaic.TcCoe Idealize.SL.Sem

/-- There is no semaphore, so every family of counters is the zero one. -/
theorem no_semaphore {α : Sort*} (f g : GSem nD τ sig → α) : f = g := by
  funext ⟨_, s⟩
  rcases s with s | s <;> exact s.elim0

/-- The reference's frame: its arguments end unchanged and no counter is left above zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, no_semaphore _ _⟩) (Value.run m ρ)

end Cert.ReferenceIdeal.Hand

end
-- ==== Proof.Ker.Entry.lean ====
module

public import proofs.«01_k».proof.Proof.Ker.Launch
public import Idealize.ShloMosaic.Lib.Claim
public import Idealize.ShloMosaic.Lib.Pointwise

@[expose] public section
set_option maxRecDepth 16384

/-! # The kernel's operands

What the host operations before the launch make of the arguments, and each operand at an index. -/

noncomputable section

namespace Cert.KernelIdeal.Val

open Cert.KernelIdeal Cert.KernelIdeal.Gen Cert.KernelIdeal.Body
open Idealize.ShloMosaic Idealize.ShloMosaic.TcCoe Idealize.SL.Sem

/-- The image with positions flattened, channels last, padded by rows of zeros. -/
def opX0 (X : FVec Ideal S8x256x64x64 .f32) : FVec Ideal S8x4240x256 .bf16 :=
  truncf .bf16 (pad S8x4240x256 ![0, 72, 0] ![0, 72, 0] ![0, 0, 0]
    (transpose S8x4096x256 [0, 2, 1] (shapeCast S8x256x4096 X shapeCasts_S8x256x64x64_S8x256x4096) transposes_S8x256x4096_S8x4096x256_0_2_1)
    (sitofp .f32 (constantI S_ 32 0#32)) pads_S8x4096x256_S8x4240x256_000_72720_000 h_S_) bitsLt_bf16_f32
/-- The image with positions flattened. -/
def opX1 (X : FVec Ideal S8x256x64x64 .f32) : FVec Ideal S8x256x4096 .bf16 :=
  truncf .bf16 (shapeCast S8x256x4096 X shapeCasts_S8x256x64x64_S8x256x4096) bitsLt_bf16_f32
/-- The weights of offsets and mask, one slab per tap. -/
def opW (A : FVec Ideal S18x256x3x3 .f32) (B : FVec Ideal S9x256x3x3 .f32) : FVec Ideal S9x256x27 .bf16 :=
  truncf .bf16 (shapeCast S9x256x27 (transpose S3x3x256x27 [2, 3, 1, 0]
    (concatenate S27x256x3x3 0 [⟨S18x256x3x3, A⟩, ⟨S9x256x3x3, B⟩] concatenates_S18x256x3x3_S9x256x3x3_S27x256x3x3_d0)
    transposes_S27x256x3x3_S3x3x256x27_2_3_1_0) shapeCasts_S3x3x256x27_S9x256x27) bitsLt_bf16_f32
/-- Their biases. -/
def opB (A : FVec Ideal S18 .f32) (B : FVec Ideal S9 .f32) : FVec Ideal S1x27 .f32 :=
  shapeCast S1x27 (concatenate S27 0 [⟨S18, A⟩, ⟨S9, B⟩] concatenates_S18_S9_S27_d0) shapeCasts_S27_S1x27
/-- The weights, one slab per tap. -/
def opW2 (W : FVec Ideal S256x256x3x3 .f32) : FVec Ideal S9x256x256 .bf16 :=
  truncf .bf16 (transpose S9x256x256 [2, 0, 1] (shapeCast S256x256x9 W shapeCasts_S256x256x3x3_S256x256x9)
    transposes_S256x256x9_S9x256x256_2_0_1) bitsLt_bf16_f32
/-- The bias, as a column. -/
def opBias (b : FVec Ideal S256 .f32) : FVec Ideal S256x1 .f32 := shapeCast S256x1 b shapeCasts_S256_S256x1

section
variable (m : (ℓ : Loc nD τ sig) → Buf (Elt Ideal) ℓ) (c : Dev nD)

theorem V_v3 : V m c main_v3 = opX0 (m ((c.tc : Thread nD τ).loc main_arg0)) := by
  unfold V V0 hostOps0 hostOps0_1 hostOps0_2
  simp only [List.flatten_cons, List.flatten_nil, List.append_nil, List.cons_append, List.nil_append]
  after_results
  rfl

theorem V_v5 : V m c main_v5 = opX1 (m ((c.tc : Thread nD τ).loc main_arg0)) := by
  unfold V V0 hostOps0 hostOps0_1 hostOps0_2
  simp only [List.flatten_cons, List.flatten_nil, List.append_nil, List.cons_append, List.nil_append]
  after_results
  rfl

theorem V_v9 : V m c main_v9 = opW (m ((c.tc : Thread nD τ).loc main_arg1)) (m ((c.tc : Thread nD τ).loc main_arg3)) := by
  unfold V V0 hostOps0 hostOps0_1 hostOps0_2
  simp only [List.flatten_cons, List.flatten_nil, List.append_nil, List.cons_append, List.nil_append]
  after_results
  rfl

theorem V_v11 : V m c main_v11 = opB (m ((c.tc : Thread nD τ).loc main_arg2)) (m ((c.tc : Thread nD τ).loc main_arg4)) := by
  unfold V V0 hostOps0 hostOps0_1 hostOps0_2
  simp only [List.flatten_cons, List.flatten_nil, List.append_nil, List.cons_append, List.nil_append]
  after_results
  rfl

theorem V_v14 : V m c main_v14 = opW2 (m ((c.tc : Thread nD τ).loc main_arg5)) := by
  unfold V V0 hostOps0 hostOps0_1 hostOps0_2
  simp only [List.flatten_cons, List.flatten_nil, List.append_nil, List.cons_append, List.nil_append]
  after_results
  rfl

theorem V_v15 : V m c main_v15 = opBias (m ((c.tc : Thread nD τ).loc main_arg6)) := by
  unfold V V0 hostOps0 hostOps0_1 hostOps0_2
  simp only [List.flatten_cons, List.flatten_nil, List.append_nil, List.cons_append, List.nil_append]
  after_results
  rfl
end

theorem opX0_apply (X : FVec Ideal S8x256x64x64 .f32) (b : Fin 8) (r : Fin 4240) (c : Fin 256) :
    opX0 X (ix3 b r c) = if h : 72 ≤ r.val ∧ r.val < 4168 then
      X (ix4 b c ⟨(r.val - 72) / 64, by omega⟩ ⟨(r.val - 72) % 64, by omega⟩) else 0 := by
  pointwise [opX0]
  by_cases h : 72 ≤ r.val ∧ r.val < 4168
  · rw [dif_pos (show 72 ≤ r.val ∧ r.val - 72 < 4096 by omega), dif_pos h]
  · rw [dif_neg (show ¬ (72 ≤ r.val ∧ r.val - 72 < 4096) by omega), dif_neg h]
    show (((0#32).toInt : ℝ) : EReal) = 0
    simp

theorem opX1_apply (X : FVec Ideal S8x256x64x64 .f32) (b : Fin 8) (c : Fin 256) (p : Fin 4096) :
    opX1 X (ix3 b c p) = X (ix4 b c ⟨p.val / 64, by omega⟩ ⟨p.val % 64, by omega⟩) := by
  pointwise [opX1]

theorem opW_apply (A : FVec Ideal S18x256x3x3 .f32) (B : FVec Ideal S9x256x3x3 .f32) (d : Fin 9) (c : Fin 256) (n : Fin 27) :
    opW A B (ix3 d c n) = if h : n.val < 18 then A (ix4 ⟨n.val, h⟩ c ⟨d.val / 3, by omega⟩ ⟨d.val % 3, by omega⟩)
      else B (ix4 ⟨n.val - 18, by omega⟩ c ⟨d.val / 3, by omega⟩ ⟨d.val % 3, by omega⟩) := by
  pointwise [opW]

theorem opB_apply (A : FVec Ideal S18 .f32) (B : FVec Ideal S9 .f32) (n : Fin 27) :
    opB A B (ix2 0 n) = if h : n.val < 18 then A (ix1 ⟨n.val, h⟩) else B (ix1 ⟨n.val - 18, by omega⟩) := by
  pointwise [opB]

theorem opW2_apply (W : FVec Ideal S256x256x3x3 .f32) (k : Fin 9) (o c : Fin 256) :
    opW2 W (ix3 k o c) = W (ix4 o c ⟨k.val / 3, by omega⟩ ⟨k.val % 3, by omega⟩) := by
  pointwise [opW2]

theorem opBias_apply (b : FVec Ideal S256 .f32) (o : Fin 256) : opBias b (ix2 o 0) = b (ix1 o) := by
  pointwise [opBias]

end Cert.KernelIdeal.Val

end
-- ==== Proof.Ker.Words.lean ====
module

public import proofs.«01_k».proof.Proof.Ker.Terms
public import Idealize.ShloMosaic.Lib.Pointwise

@[expose] public section
set_option maxRecDepth 16384

/-! # The body's integer arithmetic

Positions of a tile are small, so every word is the number it stands for. -/

noncomputable section

namespace Cert.KernelIdeal.Val

open Cert.KernelIdeal Cert.KernelIdeal.Gen Cert.KernelIdeal.Body
open Idealize.ShloMosaic Idealize.ShloMosaic.TcCoe

/-- The image column of position `t`, as the body computes it, compared with the borders. -/
theorem word_mask (q : Fin 8) (t : Fin 512) :
    (let p := IntOp.addi (Scalar.muli (BitVec.ofNat 32 q.val) 512#32) (BitVec.ofNat 32 t.val)
     let d : BitVec 32 := Scalar.select (Scalar.cmpi CmpIPredicate.eq 64#32 0#32) 1#32 64#32
     let w := Scalar.select
      (IntOp.andi (IntOp.xori (IntOp.cmpi CmpIPredicate.slt (IntOp.remsi ArithUnit.vector p d) 0#32)
          (Scalar.cmpi CmpIPredicate.slt d 0#32))
        (IntOp.cmpi CmpIPredicate.ne (IntOp.remsi ArithUnit.vector p d) 0#32))
      (IntOp.addi (IntOp.remsi ArithUnit.vector p d) d) (IntOp.remsi ArithUnit.vector p d)
     w) = BitVec.ofNat 32 (t.val % 64) := by
  revert q t; decide +kernel

theorem word_row (q : Fin 8) (t : Fin 512) :
    (let p := IntOp.addi (Scalar.muli (BitVec.ofNat 32 q.val) 512#32) (BitVec.ofNat 32 t.val)
     Scalar.select
        (IntOp.andi
          (IntOp.cmpi CmpIPredicate.ne
            (IntOp.subi (BitVec.setWidth 32 (IntOp.cmpi CmpIPredicate.sgt p 0#32))
              (BitVec.setWidth 32 (IntOp.cmpi CmpIPredicate.slt p 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector p 64#32) 0#32))
        (IntOp.subi (IntOp.divsi ArithUnit.vector p 64#32) 1#32)
        (IntOp.divsi ArithUnit.vector p 64#32)) = BitVec.ofNat 32 (8 * q.val + t.val / 64) := by
  revert q t; decide +kernel

theorem mask_words (t : Fin 512) :
    (BitVec.setWidth 32 (IntOp.cmpi CmpIPredicate.sge (BitVec.ofNat 32 (t.val % 64)) 1#32)).toInt = (if 1 ≤ t.val % 64 then 1 else 0)
    ∧ (BitVec.setWidth 32 (IntOp.cmpi CmpIPredicate.sle (BitVec.ofNat 32 (t.val % 64)) 62#32)).toInt = (if t.val % 64 ≤ 62 then 1 else 0) := by
  revert t; decide +kernel

theorem small_toInt (n : Fin 4096) : (BitVec.ofNat 32 n.val).toInt = n.val := by
  revert n; decide +kernel

/-- A small word, as a float, is its number. -/
theorem sitofp_small (n : ℕ) (h : n < 4096) :
    (FloatOps.sitofp FTy.f32 (BitVec.ofNat 32 n) : Ideal .f32) = (((n : ℕ) : ℝ) : EReal) := by
  show (((BitVec.ofNat 32 n).toInt : ℝ) : EReal) = _
  rw [small_toInt ⟨n, h⟩]
  simp

theorem pay5_apply (i : grid0.Coords) (q : Fin 8) (hq : (i 1).val = q.val) (t : Fin 512) :
    k0_pay5 i (ix2 t 0) = BitVec.ofNat 32 (t.val % 64) := by
  pointwise [k0_pay5]
  rw [hq]
  exact word_mask q t

theorem rowNo_apply (i : grid0.Coords) (q : Fin 8) (hq : (i 1).val = q.val) (t : Fin 512) :
    rowNo (F := Ideal) i (ix2 0 t) = (((8 * q.val + t.val / 64 : ℕ) : ℝ) : EReal) := by
  pointwise [rowNo, tileBase, k0_pay17, k0_pay14, k0_pay15, k0_pay16, k0_pay13]
  rw [hq]
  exact (congrArg (FloatOps.sitofp FTy.f32) (word_row q t)).trans (sitofp_small _ (by omega))

theorem colNo_apply (i : grid0.Coords) (q : Fin 8) (hq : (i 1).val = q.val) (t : Fin 512) :
    colNo (F := Ideal) i (ix2 0 t) = (((t.val % 64 : ℕ) : ℝ) : EReal) := by
  pointwise [colNo, tileBase, k0_pay18, k0_pay13]
  rw [hq]
  exact (congrArg (FloatOps.sitofp FTy.f32) (word_mask q t)).trans (sitofp_small _ (by omega))

theorem off1_val (q : Fin 8) :
    (Scalar.addi (Scalar.muli (BitVec.ofNat 32 q.val) 512#32) 0#32).toNat = 512 * q.val
    ∧ (Scalar.addi (Scalar.muli (BitVec.ofNat 32 q.val) 512#32) 64#32).toNat = 512 * q.val + 64
    ∧ (Scalar.addi (Scalar.muli (BitVec.ofNat 32 q.val) 512#32) 128#32).toNat = 512 * q.val + 128 := by
  revert q; decide +kernel

end Cert.KernelIdeal.Val

end
-- ==== Proof.Ker.Conv.lean ====
module

public import proofs.«01_k».proof.Proof.Ker.Words
public import Idealize.ShloMosaic.Lib.Pointwise

@[expose] public section
set_option maxRecDepth 16384

/-! # The kernel's convolution of one tile, at an index

The tile's three slabs are rows of the padded input; the left and right image borders are masked, the
upper and lower ones are the zero rows of the padding. -/

noncomputable section

namespace Cert.KernelIdeal.Val

open Cert.KernelIdeal Cert.KernelIdeal.Gen Cert.KernelIdeal.Body
open Idealize.ShloMosaic Idealize.ShloMosaic.TcCoe

/-- The input channel sum of kernel row `a`, column `b`, at position `t` of tile `q`, for channel `n`. -/
def tapSum (q : Fin 8) (x0 : FVec Ideal S1x4240x256 .bf16) (x2 : FVec Ideal S9x256x27 .bf16) (a b : Fin 3)
    (n : Fin 27) (t : Fin 512) : EReal :=
  ∑ c : Fin 256, x0 (ix3 0 ⟨512 * q.val + 64 * a.val + 7 + b.val + t.val, by omega⟩ c)
    * x2 (ix3 ⟨3 * a.val + b.val, by omega⟩ c n)

/-- The mask of the left border, and of the right one. -/
def maskL (t : Fin 512) : EReal := if 1 ≤ t.val % 64 then 1 else 0
@[inherit_doc maskL] def maskR (t : Fin 512) : EReal := if t.val % 64 ≤ 62 then 1 else 0

/-- The convolution of the tile for channel `n` at position `t`. -/
def convAt (q : Fin 8) (x0 : FVec Ideal S1x4240x256 .bf16) (x2 : FVec Ideal S9x256x27 .bf16) (x3 : FVec Ideal S1x27 .f32)
    (n : Fin 27) (t : Fin 512) : EReal :=
  (tapSum q x0 x2 0 0 n t + tapSum q x0 x2 1 0 n t + tapSum q x0 x2 2 0 n t) * maskL t
    + (tapSum q x0 x2 0 1 n t + tapSum q x0 x2 1 1 n t + tapSum q x0 x2 2 1 n t)
    + (tapSum q x0 x2 0 2 n t + tapSum q x0 x2 1 2 n t + tapSum q x0 x2 2 2 n t) * maskR t
    + x3 (ix2 0 n)

/-! ## The slabs -/

theorem xRows0_apply (i : grid0.Coords) (q : Fin 8) (hq : (i 1).val = q.val) (x0 : FVec Ideal S1x4240x256 .bf16) (r : Fin 528) (c : Fin 256) :
    xRows0 (F := Ideal) i x0 (ix3 0 r c) = x0 (ix3 0 ⟨512 * q.val + r.val, by omega⟩ c) := by
  refine congrArg x0 (funext fun a => Fin.ext ?_)
  fin_cases a
  · rfl
  · show (Scalar.addi (Scalar.muli (BitVec.ofNat 32 (i 1).val) 512#32) 0#32).toNat + 1 * r.val = _
    rw [hq, (off1_val q).1, Nat.one_mul]; rfl
  · show 0 + 1 * c.val = c.val; omega

theorem xRows1_apply (i : grid0.Coords) (q : Fin 8) (hq : (i 1).val = q.val) (x0 : FVec Ideal S1x4240x256 .bf16) (r : Fin 528) (c : Fin 256) :
    xRows1 (F := Ideal) i x0 (ix3 0 r c) = x0 (ix3 0 ⟨512 * q.val + 64 + r.val, by omega⟩ c) := by
  refine congrArg x0 (funext fun a => Fin.ext ?_)
  fin_cases a
  · rfl
  · show (Scalar.addi (Scalar.muli (BitVec.ofNat 32 (i 1).val) 512#32) 64#32).toNat + 1 * r.val = _
    rw [hq, (off1_val q).2.1, Nat.one_mul]; rfl
  · show 0 + 1 * c.val = c.val; omega

theorem xRows2_apply (i : grid0.Coords) (q : Fin 8) (hq : (i 1).val = q.val) (x0 : FVec Ideal S1x4240x256 .bf16) (r : Fin 528) (c : Fin 256) :
    xRows2 (F := Ideal) i x0 (ix3 0 r c) = x0 (ix3 0 ⟨512 * q.val + 128 + r.val, by omega⟩ c) := by
  refine congrArg x0 (funext fun a => Fin.ext ?_)
  fin_cases a
  · rfl
  · show (Scalar.addi (Scalar.muli (BitVec.ofNat 32 (i 1).val) 512#32) 128#32).toNat + 1 * r.val = _
    rw [hq, (off1_val q).2.2, Nat.one_mul]; rfl
  · show 0 + 1 * c.val = c.val; omega

/-! ## The convolution -/

/-- A tap's channel sum, however its row and its slab of weights are spelled. -/
theorem tapSum_of (q : Fin 8) (x0 : FVec Ideal S1x4240x256 .bf16) (x2 : FVec Ideal S9x256x27 .bf16) (a b : Fin 3)
    (n : Fin 27) (t : Fin 512) (m : ℕ) (hm : m < 4240) (d : Fin 9) (e : m = 512 * q.val + 64 * a.val + 7 + b.val + t.val)
    (hd : d = ⟨3 * a.val + b.val, by omega⟩) :
    ∑ c : Fin 256, x0 (ix3 0 ⟨m, hm⟩ c) * x2 (ix3 d c n) = tapSum q x0 x2 a b n t := by
  subst e hd; rfl

theorem maskL_of (t : Fin 512) :
    (FloatOps.sitofp FTy.f32 (BitVec.setWidth 32 (IntOp.cmpi CmpIPredicate.sge (BitVec.ofNat 32 (t.val % 64)) 1#32)) : Ideal .f32) = maskL t := by
  show (((BitVec.setWidth 32 _).toInt : ℝ) : EReal) = _
  rw [(mask_words t).1, maskL]
  split_ifs <;> simp

theorem maskR_of (t : Fin 512) :
    (FloatOps.sitofp FTy.f32 (BitVec.setWidth 32 (IntOp.cmpi CmpIPredicate.sle (BitVec.ofNat 32 (t.val % 64)) 62#32)) : Ideal .f32) = maskR t := by
  show (((BitVec.setWidth 32 _).toInt : ℝ) : EReal) = _
  rw [(mask_words t).2, maskR]
  split_ifs <;> simp

/-- The first two kernel columns. -/
theorem convHead_apply (i : grid0.Coords) (q : Fin 8) (hq : (i 1).val = q.val) (x0 : FVec Ideal S1x4240x256 .bf16) (x2 : FVec Ideal S9x256x27 .bf16)
    (n : Fin 27) (t : Fin 512) :
    convHead (F := Ideal) i x0 x2 (ix2 t n)
      = (tapSum q x0 x2 0 0 n t + tapSum q x0 x2 1 0 n t + tapSum q x0 x2 2 0 n t) * maskL t
        + (tapSum q x0 x2 0 1 n t + tapSum q x0 x2 1 1 n t + tapSum q x0 x2 2 1 n t) := by
  pointwise [convHead, k0_pay10, k0_pay9, k0_pay6, k0_pay7, k0_pay8, xRows0_apply i q hq, xRows1_apply i q hq, xRows2_apply i q hq, pay5_apply i q hq]
  exact congrArg₂ (· + ·) (congrArg₂ (· * ·) (congrArg₂ (· + ·) (congrArg₂ (· + ·)
      (tapSum_of q x0 x2 0 0 n t _ _ _ (by simp; omega) rfl) (tapSum_of q x0 x2 1 0 n t _ _ _ (by simp; omega) rfl))
      (tapSum_of q x0 x2 2 0 n t _ _ _ (by simp; omega) rfl)) (maskL_of t))
    (congrArg₂ (· + ·) (congrArg₂ (· + ·)
      (tapSum_of q x0 x2 0 1 n t _ _ _ (by simp; omega) rfl) (tapSum_of q x0 x2 1 1 n t _ _ _ (by simp; omega) rfl))
      (tapSum_of q x0 x2 2 1 n t _ _ _ (by simp; omega) rfl))

theorem convT_apply (i : grid0.Coords) (q : Fin 8) (hq : (i 1).val = q.val) (x0 : FVec Ideal S1x4240x256 .bf16) (x2 : FVec Ideal S9x256x27 .bf16)
    (x3 : FVec Ideal S1x27 .f32) (n : Fin 27) (t : Fin 512) :
    convT (F := Ideal) i x0 x2 x3 (ix2 n t) = convAt q x0 x2 x3 n t := by
  pointwise [convT, k0_pay12, k0_pay11, k0_pay6, k0_pay7, k0_pay8, xRows0_apply i q hq, xRows1_apply i q hq, xRows2_apply i q hq, pay5_apply i q hq,
    convHead_apply i q hq]
  exact congrArg₂ (· + ·) (congrArg₂ (· + ·) rfl (congrArg₂ (· * ·) (congrArg₂ (· + ·) (congrArg₂ (· + ·)
      (tapSum_of q x0 x2 0 2 n t _ _ _ (by simp; omega) rfl) (tapSum_of q x0 x2 1 2 n t _ _ _ (by simp; omega) rfl))
      (tapSum_of q x0 x2 2 2 n t _ _ _ (by simp; omega) rfl)) (maskR_of t))) rfl

end Cert.KernelIdeal.Val

end
-- ==== Proof.Ker.Params.lean ====
module

public import proofs.«01_k».proof.Proof.Ker.Conv
public import proofs.«01_k».proof.Proof.Ker.BodyNamed
public import Idealize.ShloMosaic.Lib.Pipeline.Value

@[expose] public section
set_option maxRecDepth 16384

/-! # The sampling parameters of one tile, at an index

Per tap: the sampling row, the sampling column and the modulation, read back from the rows stored. -/

noncomputable section

namespace Cert.KernelIdeal.Val

open Cert.KernelIdeal Cert.KernelIdeal.Gen Cert.KernelIdeal.Body
open Idealize.ShloMosaic Idealize.ShloMosaic.TcCoe

section
variable (q : Fin 8) (x0 : FVec Ideal S1x4240x256 .bf16) (x2 : FVec Ideal S9x256x27 .bf16) (x3 : FVec Ideal S1x27 .f32)

/-- The sampling row of tap `k` at position `t`; -/
def rowAt (k : Fin 9) (t : Fin 512) : EReal :=
  convAt q x0 x2 x3 ⟨2 * k.val, by omega⟩ t + (((8 * q.val + t.val / 64 : ℕ) : ℝ) : EReal) + ((((k.val / 3 : ℕ) : ℝ) - 1 : ℝ) : EReal)
/-- the sampling column; -/
def colAt (k : Fin 9) (t : Fin 512) : EReal :=
  convAt q x0 x2 x3 ⟨2 * k.val + 1, by omega⟩ t + (((t.val % 64 : ℕ) : ℝ) : EReal) + ((((k.val % 3 : ℕ) : ℝ) - 1 : ℝ) : EReal)
/-- the modulation. -/
def modAt (k : Fin 9) (t : Fin 512) : EReal :=
  Ideal.ofBits .f32 0x40000000#32 * Ideal.logistic (convAt q x0 x2 x3 ⟨18 + k.val, by omega⟩ t)

/-- The three rows of a tap's slab. -/
def paramAt (y : S9x8x512.Idx) : EReal :=
  if (y 1).val = 0 then rowAt q x0 x2 x3 (y 0) (y 2) else if (y 1).val = 1 then colAt q x0 x2 x3 (y 0) (y 2) else modAt q x0 x2 x3 (y 0) (y 2)

end

theorem negOne : Ideal.ofBits .f32 0xBF800000#32 = ((-1 : ℝ) : EReal) := by
  simp [Ideal.ofBits, Ideal.ieee]
  rw [← EReal.coe_mul]
  norm_num

/-- A stored row agrees with `G` on its rectangle as soon as its entries are `G`'s. -/
theorem piece_of (G : S9x8x512.Idx → Elt Ideal .f32) (a : Fin 9) (b : Fin 8) (pay : Vec Ideal S1x1x512 .f32)
    (inb : ∀ d, (![a.val, b.val, 0] : Fin 3 → ℕ) d + S1x1x512.size d ≤ S9x8x512.size d)
    (h : ∀ t : Fin 512, pay (ix3 0 0 t) = G (ix3 a b t)) (x : (Rect.unit (s := S9x8x512) ![a.val, b.val, 0] S1x1x512.size inb).shape.Idx) :
    pay x = G ((Rect.unit (s := S9x8x512) ![a.val, b.val, 0] S1x1x512.size inb).emb x) := by
  have hx : x = (ix3 0 0 (x 2) : S1x1x512.Idx) := by
    funext d
    fin_cases d
    · exact Subsingleton.elim (α := Fin 1) _ _
    · exact Subsingleton.elim (α := Fin 1) _ _
    · rfl
  rw [hx]
  refine (h (x 2)).trans (congrArg G (funext fun d => Fin.ext ?_))
  fin_cases d
  · rfl
  · rfl
  · show (x 2).val = 0 + 1 * (x 2).val; omega

/-- A trip's slab is the trip's own. -/
theorem off2_val : ∀ k : Fin k0_t1_loop.trips, k0_off2 k 0 = k.val := by decide +kernel

theorem off3_val : ∀ k : Fin k0_t1_loop.trips, k0_off3 k 0 = k.val := by decide +kernel

section
variable (i : grid0.Coords) (q : Fin 8) (hq : (i 1).val = q.val)
  (x0 : FVec Ideal S1x4240x256 .bf16) (x2 : FVec Ideal S9x256x27 .bf16) (x3 : FVec Ideal S1x27 .f32)
include hq

/-- The row number, as the first tap's payload computes it; -/
theorem rowNo0_apply (t : Fin 512) : k0_pay17 (F := Ideal) (k0_pay14 (tileBase i)) (k0_pay15 (tileBase i)) k0_pay16 (ix2 0 t)
    = (((8 * q.val + t.val / 64 : ℕ) : ℝ) : EReal) := rowNo_apply i q hq t
/-- and the column number. -/
theorem colNo0_apply (t : Fin 512) : k0_pay18 (F := Ideal) (k0_pay13 (tileBase i)) (ix2 0 t)
    = (((t.val % 64 : ℕ) : ℝ) : EReal) := colNo_apply i q hq t

theorem row0_apply (t : Fin 512) : k0_pay21 (convT (F := Ideal) i x0 x2 x3) (k0_pay14 (tileBase i)) (k0_pay15 (tileBase i)) k0_pay16 (ix3 0 0 t) = rowAt q x0 x2 x3 0 t := by
  pointwise [k0_pay21, convT_apply i q hq, negOne, rowNo0_apply i q hq]
  exact congrArg₂ (· + ·) rfl (congrArg _ (by norm_num))

theorem col0_apply (t : Fin 512) : k0_pay22 (convT (F := Ideal) i x0 x2 x3) (k0_pay13 (tileBase i)) (ix3 0 0 t) = colAt q x0 x2 x3 0 t := by
  pointwise [k0_pay22, convT_apply i q hq, negOne, colNo0_apply i q hq]
  exact congrArg₂ (· + ·) rfl (congrArg _ (by norm_num))

theorem mod0_apply (t : Fin 512) : k0_pay24 (k0_pay23 (convT (F := Ideal) i x0 x2 x3)) (ix3 0 0 t) = modAt q x0 x2 x3 0 t := by
  pointwise [k0_pay24, k0_pay23, convT_apply i q hq, negOne]
  rfl

theorem row1_apply (t : Fin 512) : k0_pay25 (convT (F := Ideal) i x0 x2 x3) (rowNo i) (ix3 0 0 t) = rowAt q x0 x2 x3 1 t := by
  pointwise [k0_pay25, convT_apply i q hq, negOne, rowNo_apply i q hq]
  exact congrArg₂ (· + ·) rfl (congrArg _ (by norm_num))

theorem col1_apply (t : Fin 512) : k0_pay26 (convT (F := Ideal) i x0 x2 x3) (colNo i) (ix3 0 0 t) = colAt q x0 x2 x3 1 t := by
  pointwise [k0_pay26, convT_apply i q hq, negOne, colNo_apply i q hq]
  exact (add_zero _).symm.trans (congrArg₂ (· + ·) rfl (by norm_num))

theorem mod1_apply (t : Fin 512) : k0_pay27 (convT (F := Ideal) i x0 x2 x3) (ix3 0 0 t) = modAt q x0 x2 x3 1 t := by
  pointwise [k0_pay27, convT_apply i q hq, negOne]
  rfl

theorem row2_apply (t : Fin 512) : k0_pay28 (convT (F := Ideal) i x0 x2 x3) (rowNo i) (ix3 0 0 t) = rowAt q x0 x2 x3 2 t := by
  pointwise [k0_pay28, convT_apply i q hq, negOne, rowNo_apply i q hq]
  exact congrArg₂ (· + ·) rfl (congrArg _ (by norm_num))

theorem col2_apply (t : Fin 512) : k0_pay30 (k0_pay29 (convT (F := Ideal) i x0 x2 x3) (colNo i)) (ix3 0 0 t) = colAt q x0 x2 x3 2 t := by
  pointwise [k0_pay30, k0_pay29, convT_apply i q hq, negOne, colNo_apply i q hq]
  exact congrArg₂ (· + ·) rfl (by norm_num)

theorem mod2_apply (t : Fin 512) : k0_pay31 (convT (F := Ideal) i x0 x2 x3) (ix3 0 0 t) = modAt q x0 x2 x3 2 t := by
  pointwise [k0_pay31, convT_apply i q hq, negOne]
  rfl

theorem row3_apply (t : Fin 512) : k0_pay32 (convT (F := Ideal) i x0 x2 x3) (rowNo i) (ix3 0 0 t) = rowAt q x0 x2 x3 3 t := by
  pointwise [k0_pay32, convT_apply i q hq, negOne, rowNo_apply i q hq]
  exact (add_zero _).symm.trans (congrArg₂ (· + ·) rfl (by norm_num))

theorem col3_apply (t : Fin 512) : k0_pay33 (convT (F := Ideal) i x0 x2 x3) (colNo i) (ix3 0 0 t) = colAt q x0 x2 x3 3 t := by
  pointwise [k0_pay33, convT_apply i q hq, negOne, colNo_apply i q hq]
  exact congrArg₂ (· + ·) rfl (congrArg _ (by norm_num))

theorem mod3_apply (t : Fin 512) : k0_pay34 (convT (F := Ideal) i x0 x2 x3) (ix3 0 0 t) = modAt q x0 x2 x3 3 t := by
  pointwise [k0_pay34, convT_apply i q hq, negOne]
  rfl

theorem row4_apply (t : Fin 512) : k0_pay36 (k0_pay35 (convT (F := Ideal) i x0 x2 x3) (rowNo i)) (ix3 0 0 t) = rowAt q x0 x2 x3 4 t := by
  pointwise [k0_pay36, k0_pay35, convT_apply i q hq, negOne, rowNo_apply i q hq]
  exact (add_zero _).symm.trans (congrArg₂ (· + ·) rfl (by norm_num))

theorem col4_apply (t : Fin 512) : k0_pay37 (convT (F := Ideal) i x0 x2 x3) (colNo i) (ix3 0 0 t) = colAt q x0 x2 x3 4 t := by
  pointwise [k0_pay37, convT_apply i q hq, negOne, colNo_apply i q hq]
  exact (add_zero _).symm.trans (congrArg₂ (· + ·) rfl (by norm_num))

theorem mod4_apply (t : Fin 512) : k0_pay38 (convT (F := Ideal) i x0 x2 x3) (ix3 0 0 t) = modAt q x0 x2 x3 4 t := by
  pointwise [k0_pay38, convT_apply i q hq, negOne]
  rfl

theorem row5_apply (t : Fin 512) : k0_pay39 (convT (F := Ideal) i x0 x2 x3) (rowNo i) (ix3 0 0 t) = rowAt q x0 x2 x3 5 t := by
  pointwise [k0_pay39, convT_apply i q hq, negOne, rowNo_apply i q hq]
  exact (add_zero _).symm.trans (congrArg₂ (· + ·) rfl (by norm_num))

theorem col5_apply (t : Fin 512) : k0_pay40 (convT (F := Ideal) i x0 x2 x3) (colNo i) (ix3 0 0 t) = colAt q x0 x2 x3 5 t := by
  pointwise [k0_pay40, convT_apply i q hq, negOne, colNo_apply i q hq]
  exact congrArg₂ (· + ·) rfl (by norm_num)

theorem mod5_apply (t : Fin 512) : k0_pay42 (k0_pay41 (convT (F := Ideal) i x0 x2 x3)) (ix3 0 0 t) = modAt q x0 x2 x3 5 t := by
  pointwise [k0_pay42, k0_pay41, convT_apply i q hq, negOne]
  rfl

theorem row6_apply (t : Fin 512) : k0_pay43 (convT (F := Ideal) i x0 x2 x3) (rowNo i) (ix3 0 0 t) = rowAt q x0 x2 x3 6 t := by
  pointwise [k0_pay43, convT_apply i q hq, negOne, rowNo_apply i q hq]
  exact congrArg₂ (· + ·) rfl (by norm_num)

theorem col6_apply (t : Fin 512) : k0_pay44 (convT (F := Ideal) i x0 x2 x3) (colNo i) (ix3 0 0 t) = colAt q x0 x2 x3 6 t := by
  pointwise [k0_pay44, convT_apply i q hq, negOne, colNo_apply i q hq]
  exact congrArg₂ (· + ·) rfl (congrArg _ (by norm_num))

theorem mod6_apply (t : Fin 512) : k0_pay45 (convT (F := Ideal) i x0 x2 x3) (ix3 0 0 t) = modAt q x0 x2 x3 6 t := by
  pointwise [k0_pay45, convT_apply i q hq, negOne]
  rfl

theorem row7_apply (t : Fin 512) : k0_pay46 (convT (F := Ideal) i x0 x2 x3) (rowNo i) (ix3 0 0 t) = rowAt q x0 x2 x3 7 t := by
  pointwise [k0_pay46, convT_apply i q hq, negOne, rowNo_apply i q hq]
  exact congrArg₂ (· + ·) rfl (by norm_num)

theorem col7_apply (t : Fin 512) : k0_pay48 (k0_pay47 (convT (F := Ideal) i x0 x2 x3) (colNo i)) (ix3 0 0 t) = colAt q x0 x2 x3 7 t := by
  pointwise [k0_pay48, k0_pay47, convT_apply i q hq, negOne, colNo_apply i q hq]
  exact (add_zero _).symm.trans (congrArg₂ (· + ·) rfl (by norm_num))

theorem mod7_apply (t : Fin 512) : k0_pay49 (convT (F := Ideal) i x0 x2 x3) (ix3 0 0 t) = modAt q x0 x2 x3 7 t := by
  pointwise [k0_pay49, convT_apply i q hq, negOne]
  rfl

theorem row8_apply (t : Fin 512) : k0_pay50 (convT (F := Ideal) i x0 x2 x3) (rowNo i) (ix3 0 0 t) = rowAt q x0 x2 x3 8 t := by
  pointwise [k0_pay50, convT_apply i q hq, negOne, rowNo_apply i q hq]
  exact congrArg₂ (· + ·) rfl (by norm_num)

theorem col8_apply (t : Fin 512) : k0_pay51 (convT (F := Ideal) i x0 x2 x3) (colNo i) (ix3 0 0 t) = colAt q x0 x2 x3 8 t := by
  pointwise [k0_pay51, convT_apply i q hq, negOne, colNo_apply i q hq]
  exact congrArg₂ (· + ·) rfl (by norm_num)

theorem mod8_apply (t : Fin 512) : k0_pay52 (convT (F := Ideal) i x0 x2 x3) (ix3 0 0 t) = modAt q x0 x2 x3 8 t := by
  pointwise [k0_pay52, convT_apply i q hq, negOne]
  rfl

/-- Every stored row holds the parameters. -/
theorem pieces_agree : ∀ p ∈ paramRows (F := Ideal) i x0 x2 x3, ∀ x : p.1.shape.Idx, p.2 x = paramAt q x0 x2 x3 (p.1.emb x) := by
  unfold paramRows
  simp only [List.forall_mem_cons, List.not_mem_nil, false_implies, implies_true, and_true]
  exact ⟨piece_of _ 8 2 _ _ (mod8_apply i q hq x0 x2 x3),
    piece_of _ 8 1 _ _ (col8_apply i q hq x0 x2 x3),
    piece_of _ 8 0 _ _ (row8_apply i q hq x0 x2 x3),
    piece_of _ 7 2 _ _ (mod7_apply i q hq x0 x2 x3),
    piece_of _ 7 1 _ _ (col7_apply i q hq x0 x2 x3),
    piece_of _ 7 0 _ _ (row7_apply i q hq x0 x2 x3),
    piece_of _ 6 2 _ _ (mod6_apply i q hq x0 x2 x3),
    piece_of _ 6 1 _ _ (col6_apply i q hq x0 x2 x3),
    piece_of _ 6 0 _ _ (row6_apply i q hq x0 x2 x3),
    piece_of _ 5 2 _ _ (mod5_apply i q hq x0 x2 x3),
    piece_of _ 5 1 _ _ (col5_apply i q hq x0 x2 x3),
    piece_of _ 5 0 _ _ (row5_apply i q hq x0 x2 x3),
    piece_of _ 4 2 _ _ (mod4_apply i q hq x0 x2 x3),
    piece_of _ 4 1 _ _ (col4_apply i q hq x0 x2 x3),
    piece_of _ 4 0 _ _ (row4_apply i q hq x0 x2 x3),
    piece_of _ 3 2 _ _ (mod3_apply i q hq x0 x2 x3),
    piece_of _ 3 1 _ _ (col3_apply i q hq x0 x2 x3),
    piece_of _ 3 0 _ _ (row3_apply i q hq x0 x2 x3),
    piece_of _ 2 2 _ _ (mod2_apply i q hq x0 x2 x3),
    piece_of _ 2 1 _ _ (col2_apply i q hq x0 x2 x3),
    piece_of _ 2 0 _ _ (row2_apply i q hq x0 x2 x3),
    piece_of _ 1 2 _ _ (mod1_apply i q hq x0 x2 x3),
    piece_of _ 1 1 _ _ (col1_apply i q hq x0 x2 x3),
    piece_of _ 1 0 _ _ (row1_apply i q hq x0 x2 x3),
    piece_of _ 0 2 _ _ (mod0_apply i q hq x0 x2 x3),
    piece_of _ 0 1 _ _ (col0_apply i q hq x0 x2 x3),
    piece_of _ 0 0 _ _ (row0_apply i q hq x0 x2 x3)⟩

/-- A tap's parameters, read back. -/
theorem params_apply (k : Fin k0_t1_loop.trips) (k' : Fin 9) (hk : k.val = k'.val) (j : Fin 3) (t : Fin 512) :
    params (F := Ideal) i x0 x2 x3 k (ix3 0 j t) = paramAt q x0 x2 x3 (ix3 k' ⟨j.val, by omega⟩ t) := by
  have e : (Rect.unit (s := S9x8x512) (k0_off2 k) S1x3x512.size (k0_off2_inb k)).idx (ix3 0 j t : S1x3x512.Idx) = (ix3 k' ⟨j.val, by omega⟩ t : S9x8x512.Idx) := by
    funext d
    refine Fin.ext ?_
    fin_cases d
    · show k0_off2 k 0 + 1 * 0 = k'.val
      rw [off2_val k, hk, Nat.mul_zero, Nat.add_zero]
    · show 0 + 1 * j.val = j.val; omega
    · show 0 + 1 * t.val = t.val; omega
  have hc := rows_cover (F := Ideal) i x0 x2 x3 (ix3 k' ⟨j.val, by omega⟩ t) k' j rfl rfl
  rw [← e] at hc ⊢
  exact View.canon_apply_of_pieces (Val := Elt Ideal) (S := S9x8x512) (e := .f32) (paramAt q x0 x2 x3) (paramRows i x0 x2 x3)
    (pieces_agree i q hq x0 x2 x3) _ hc

end

end Cert.KernelIdeal.Val

end
-- ==== Proof.Math.Hat.lean ====
module

public import Idealize.ShloMosaic.Lib.Pointwise

@[expose] public section

/-! # The hat function, and sampling by hats -/

noncomputable section

namespace Cert.Math

/-- The hat of width one: the weight of linear interpolation at distance `a`. -/
def hat (a : EReal) : EReal := max (1 - max a (-a)) 0

/-- The image sampled at row `py`, column `px`, as a sum of hats over all positions. -/
def hatSum (X : Fin 4096 → EReal) (py px : EReal) : EReal :=
  ∑ p : Fin 4096, X p * (hat (py - (((p.val / 64 : ℕ) : ℝ) : EReal)) * hat (px - (((p.val % 64 : ℕ) : ℝ) : EReal)))

end Cert.Math

end
-- ==== Proof.Ker.Out.lean ====
module

public import proofs.«01_k».proof.Proof.Ker.Params
public import proofs.«01_k».proof.Proof.Math.Hat

@[expose] public section
set_option maxRecDepth 16384

/-! # The kernel's output block, at an index

Nine taps are accumulated over the bias: each samples the image by a sum of hats over all positions,
scales by the modulation and contracts the channels with the tap's weights. -/

noncomputable section

namespace Cert.KernelIdeal.Val

open Cert.KernelIdeal Cert.KernelIdeal.Gen Cert.KernelIdeal.Body Cert.Math
open Idealize.ShloMosaic Idealize.ShloMosaic.TcCoe

theorem pay4_apply (X : FVec Ideal S256x4096 .bf16) (P : FVec Ideal S1x3x512 .f32) (A : FVec Ideal S256x512 .f32)
    (Wk : FVec Ideal S1x256x256 .bf16) (o : Fin 256) (t : Fin 512) :
    k0_pay4 k0_pay19 k0_pay20 X P A Wk (ix2 o t)
      = A (ix2 o t) + ∑ c : Fin 256, Wk (ix3 0 o c) * (hatSum (fun p => X (ix2 c p)) (P (ix3 0 0 t)) (P (ix3 0 1 t)) * P (ix3 0 2 t)) := by
  pointwise [k0_pay4, k0_pay19, k0_pay20]
  refine congrArg₂ (· + ·) rfl (Finset.sum_congr rfl fun c _ => congrArg₂ (· * ·) rfl (congrArg₂ (· * ·) (Finset.sum_congr rfl fun p _ => ?_) rfl))
  rw [sitofp_small _ (show p.val / 64 < 4096 by omega), sitofp_small _ (show p.val % 64 < 4096 by omega)]
  rfl

section
variable (i : grid0.Coords) (q : Fin 8) (hq : (i 1).val = q.val)
  (x0 : FVec Ideal S1x4240x256 .bf16) (x1 : FVec Ideal S1x256x4096 .bf16) (x2 : FVec Ideal S9x256x27 .bf16) (x3 : FVec Ideal S1x27 .f32)
  (x4 : FVec Ideal S9x256x256 .bf16) (x5 : FVec Ideal S256x1 .f32)

/-- What tap `k` adds to output channel `o` at position `t`. -/
def tapAt (k : Fin 9) (o : Fin 256) (t : Fin 512) : EReal :=
  ∑ c : Fin 256, x4 (ix3 k o c) * (hatSum (fun p => x1 (ix3 0 c p)) (rowAt q x0 x2 x3 k t) (colAt q x0 x2 x3 k t) * modAt q x0 x2 x3 k t)

theorem tapW_apply (k : Fin k0_t1_loop.trips) (k' : Fin 9) (hk : k.val = k'.val) (o c : Fin 256) :
    tapW (F := Ideal) x4 k (ix3 0 o c) = x4 (ix3 k' o c) := by
  refine congrArg x4 (funext fun d => Fin.ext ?_)
  fin_cases d
  · show k0_off3 k 0 + 1 * 0 = k'.val
    rw [off3_val k, hk, Nat.mul_zero, Nat.add_zero]
  · show 0 + 1 * o.val = o.val; omega
  · show 0 + 1 * c.val = c.val; omega

theorem acc_zero (o : Fin 256) (t : Fin 512) : accAt (F := Ideal) i x0 x1 x2 x3 x4 x5 0 (ix2 o t) = x5 (ix2 o 0) := by
  pointwise [accAt, k0_pay1, k0_pay53, k0_pay54]

include hq in
/-- One more tap. -/
theorem acc_succ (k : Fin 9) (o : Fin 256) (t : Fin 512) :
    accAt (F := Ideal) i x0 x1 x2 x3 x4 x5 (k.val + 1) (ix2 o t)
      = accAt (F := Ideal) i x0 x1 x2 x3 x4 x5 k.val (ix2 o t) + tapAt q x0 x1 x2 x3 x4 k o t := by
  have hk : k.val < k0_t1_loop.trips := k.isLt
  rw [show accAt (F := Ideal) i x0 x1 x2 x3 x4 x5 (k.val + 1) = _ from dif_pos hk]
  refine (pay4_apply _ _ _ _ o t).trans ?_
  rw [params_apply i q hq x0 x2 x3 ⟨k.val, hk⟩ k rfl 0 t, params_apply i q hq x0 x2 x3 ⟨k.val, hk⟩ k rfl 1 t,
    params_apply i q hq x0 x2 x3 ⟨k.val, hk⟩ k rfl 2 t]
  refine congrArg₂ (· + ·) rfl (Finset.sum_congr rfl fun c _ => congrArg₂ (· * ·) (tapW_apply x4 ⟨k.val, hk⟩ k rfl o c) (congrArg₂ (· * ·) ?_ rfl))
  refine congrArg (fun X => hatSum X _ _) (funext fun p => ?_)
  pointwise [k0_pay2]

include hq in
/-- The output block: the bias and the nine taps. -/
theorem bodyOut_apply (o : Fin 256) (t : Fin 512) :
    bodyOut (F := Ideal) i x0 x1 x2 x3 x4 x5 (ix3 0 o t) = x5 (ix2 o 0) + ∑ k : Fin 9, tapAt q x0 x1 x2 x3 x4 k o t := by
  have h : bodyOut (F := Ideal) i x0 x1 x2 x3 x4 x5 (ix3 0 o t) = accAt (F := Ideal) i x0 x1 x2 x3 x4 x5 9 (ix2 o t) := by
    pointwise [bodyOut, k0_pay3]
    rfl
  have s := acc_succ i q hq x0 x1 x2 x3 x4 x5
  have e0 := s 0 o t; have e1 := s 1 o t; have e2 := s 2 o t; have e3 := s 3 o t; have e4 := s 4 o t
  have e5 := s 5 o t; have e6 := s 6 o t; have e7 := s 7 o t; have e8 := s 8 o t
  refine h.trans (e8.trans ?_)
  refine (congrArg (· + _) (e7.trans (congrArg (· + _) (e6.trans (congrArg (· + _) (e5.trans (congrArg (· + _) (e4.trans (congrArg (· + _)
    (e3.trans (congrArg (· + _) (e2.trans (congrArg (· + _) (e1.trans (congrArg (· + _) (e0.trans (congrArg (· + _)
    (acc_zero i x0 x1 x2 x3 x4 x5 o t)))))))))))))))))).trans ?_
  rw [Fin.sum_univ_castSucc, Fin.sum_univ_eight]
  simp only [add_assoc]
  rfl
end

end Cert.KernelIdeal.Val

end
-- ==== Proof.Ker.Array.lean ====
module

public import proofs.«01_k».proof.Proof.Ker.Entry
public import proofs.«01_k».proof.Proof.Ker.Out

@[expose] public section
set_option maxRecDepth 16384

/-! # The kernel's result array, at an index

Every block of the result is written once, by the grid point of its image and tile. -/

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat)

/-- The grid point of image `b` and tile `q`. -/
def pointOf (b q : Fin 8) : Fin cfg0.N := (⟨8 * b.val + q.val, by omega⟩ : Fin 64)

theorem pointOf_coords : ∀ b q : Fin 8, ((grid0.coords (pointOf b q)) 0).val = b.val ∧ ((grid0.coords (pointOf b q)) 1).val = q.val := by
  decide +kernel

theorem pointOf_flush : ∀ b q : Fin 8, (cfg0.win 6).flush (pointOf b q) = true := by decide +kernel

theorem index_inj : ∀ t t' : Fin cfg0.N, win0_6.index t = win0_6.index t' → t = t' :=
  (by decide +kernel : ∀ t t' : Fin grid0.N, win0_6.index t = win0_6.index t' → t = t')

/-- Where the windows' blocks lie, at the grid point of image `b` and tile `q`. -/
theorem index_vals : ∀ b q : Fin 8, win0_6.index (pointOf b q) = ![b.val, 0, q.val] ∧ win0_0.index (pointOf b q) = ![b.val, 0, 0]
    ∧ win0_1.index (pointOf b q) = ![b.val, 0, 0] ∧ win0_2.index (pointOf b q) = ![0, 0, 0] ∧ win0_3.index (pointOf b q) = ![0, 0]
    ∧ win0_4.index (pointOf b q) = ![0, 0, 0] ∧ win0_5.index (pointOf b q) = ![0, 0] := by decide +kernel

variable (m : (ℓ : Loc nD τ sig) → Buf (Elt Ideal) ℓ) (c : Dev nD)

/-- Two grid points' blocks share no index. -/
theorem disjoint_blocks : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (index_inj t t' h)

/-- The image windows hold the point's own image; the others hold their whole operand. -/
theorem iblk0_eq (b q : Fin 8) : iblk m c 0 (pointOf b q) = fun y : S1x4240x256.Idx => V m c main_v3 (ix3 b (y 1) (y 2)) := by
  funext y
  show V m c main_v3 (((cfg0.win 0).blk (pointOf b q)).view.emb y) = _
  have hi := (index_vals b q).2.1
  refine congrArg (V m c main_v3) (funext fun d => Fin.ext ?_)
  fin_cases d
  · show win0_0.index (pointOf b q) 0 * 1 + 1 * (y 0).val = b.val
    have h0 : (y 0).val < 1 := (y 0).isLt
    rw [hi]
    show b.val * 1 + 1 * (y 0).val = b.val
    omega
  · show win0_0.index (pointOf b q) 1 * 4240 + 1 * (y 1).val = (y 1).val
    rw [hi]
    show 0 * 4240 + 1 * (y 1).val = (y 1).val
    omega
  · show win0_0.index (pointOf b q) 2 * 256 + 1 * (y 2).val = (y 2).val
    rw [hi]
    show 0 * 256 + 1 * (y 2).val = (y 2).val
    omega

theorem iblk1_eq (b q : Fin 8) : iblk m c 1 (pointOf b q) = fun y : S1x256x4096.Idx => V m c main_v5 (ix3 b (y 1) (y 2)) := by
  funext y
  show V m c main_v5 (((cfg0.win 1).blk (pointOf b q)).view.emb y) = _
  have hi := (index_vals b q).2.2.1
  refine congrArg (V m c main_v5) (funext fun d => Fin.ext ?_)
  fin_cases d
  · show win0_1.index (pointOf b q) 0 * 1 + 1 * (y 0).val = b.val
    have h0 : (y 0).val < 1 := (y 0).isLt
    rw [hi]
    show b.val * 1 + 1 * (y 0).val = b.val
    omega
  · show win0_1.index (pointOf b q) 1 * 256 + 1 * (y 1).val = (y 1).val
    rw [hi]
    show 0 * 256 + 1 * (y 1).val = (y 1).val
    omega
  · show win0_1.index (pointOf b q) 2 * 4096 + 1 * (y 2).val = (y 2).val
    rw [hi]
    show 0 * 4096 + 1 * (y 2).val = (y 2).val
    omega

theorem iblk2_eq (b q : Fin 8) : iblk m c 2 (pointOf b q) = V m c main_v9 := by
  funext y
  show V m c main_v9 (((cfg0.win 2).blk (pointOf b q)).view.emb y) = _
  have hi := (index_vals b q).2.2.2.1
  refine congrArg (V m c main_v9) (funext fun d => Fin.ext ?_)
  fin_cases d
  · show win0_2.index (pointOf b q) 0 * 9 + 1 * (y 0).val = (y 0).val
    rw [hi]
    show 0 * 9 + 1 * (y 0).val = (y 0).val
    omega
  · show win0_2.index (pointOf b q) 1 * 256 + 1 * (y 1).val = (y 1).val
    rw [hi]
    show 0 * 256 + 1 * (y 1).val = (y 1).val
    omega
  · show win0_2.index (pointOf b q) 2 * 27 + 1 * (y 2).val = (y 2).val
    rw [hi]
    show 0 * 27 + 1 * (y 2).val = (y 2).val
    omega

theorem iblk3_eq (b q : Fin 8) : iblk m c 3 (pointOf b q) = V m c main_v11 := by
  funext y
  show V m c main_v11 (((cfg0.win 3).blk (pointOf b q)).view.emb y) = _
  have hi := (index_vals b q).2.2.2.2.1
  refine congrArg (V m c main_v11) (funext fun d => Fin.ext ?_)
  fin_cases d
  · show win0_3.index (pointOf b q) 0 * 1 + 1 * (y 0).val = (y 0).val
    rw [hi]
    show 0 * 1 + 1 * (y 0).val = (y 0).val
    omega
  · show win0_3.index (pointOf b q) 1 * 27 + 1 * (y 1).val = (y 1).val
    rw [hi]
    show 0 * 27 + 1 * (y 1).val = (y 1).val
    omega

theorem iblk4_eq (b q : Fin 8) : iblk m c 4 (pointOf b q) = V m c main_v14 := by
  funext y
  show V m c main_v14 (((cfg0.win 4).blk (pointOf b q)).view.emb y) = _
  have hi := (index_vals b q).2.2.2.2.2.1
  refine congrArg (V m c main_v14) (funext fun d => Fin.ext ?_)
  fin_cases d
  · show win0_4.index (pointOf b q) 0 * 9 + 1 * (y 0).val = (y 0).val
    rw [hi]
    show 0 * 9 + 1 * (y 0).val = (y 0).val
    omega
  · show win0_4.index (pointOf b q) 1 * 256 + 1 * (y 1).val = (y 1).val
    rw [hi]
    show 0 * 256 + 1 * (y 1).val = (y 1).val
    omega
  · show win0_4.index (pointOf b q) 2 * 256 + 1 * (y 2).val = (y 2).val
    rw [hi]
    show 0 * 256 + 1 * (y 2).val = (y 2).val
    omega

theorem iblk5_eq (b q : Fin 8) : iblk m c 5 (pointOf b q) = V m c main_v15 := by
  funext y
  show V m c main_v15 (((cfg0.win 5).blk (pointOf b q)).view.emb y) = _
  have hi := (index_vals b q).2.2.2.2.2.2
  refine congrArg (V m c main_v15) (funext fun d => Fin.ext ?_)
  fin_cases d
  · show win0_5.index (pointOf b q) 0 * 256 + 1 * (y 0).val = (y 0).val
    rw [hi]
    show 0 * 256 + 1 * (y 0).val = (y 0).val
    omega
  · show win0_5.index (pointOf b q) 1 * 1 + 1 * (y 1).val = (y 1).val
    rw [hi]
    show 0 * 1 + 1 * (y 1).val = (y 1).val
    omega

theorem arr_apply (b q : Fin 8) (o : Fin 256) (s : Fin 512) :
    (dats m 0 c).arrAt 6 cfg0.N (ix3 b o ⟨512 * q.val + s.val, by omega⟩) = outsAt0 m c (pointOf b q) (ix3 0 o s) := by
  have h := congrFun ((dats m 0 c).read_blk_arrAt_eq_flushed 6 disjoint_blocks cfg0.N (pointOf b q) (pointOf b q).isLt (pointOf_flush b q)) (ix3 0 o s : S1x256x512.Idx)
  have hf : (dats m 0 c).flushed 6 (pointOf b q) (ix3 0 o s : S1x256x512.Idx) = outsAt0 m c (pointOf b q) (ix3 0 o s) := by
    show (cfg0.win 6).cut (grid0.coords (pointOf b q)) ((dats m 0 c).after 6 (pointOf b q)) _ = _
    rw [after0_6]
    rfl
  refine Eq.trans ?_ (h.trans hf)
  show _ = (dats m 0 c).arrAt 6 cfg0.N (((cfg0.win 6).blk (pointOf b q)).view.emb (ix3 0 o s : S1x256x512.Idx))
  refine congrArg ((dats m 0 c).arrAt 6 cfg0.N) (funext fun d => Fin.ext ?_)
  have hi := (index_vals b q).1
  fin_cases d
  · show b.val = win0_6.index (pointOf b q) 0 * 1 + 1 * 0
    rw [hi]
    show b.val = b.val * 1 + 1 * 0
    omega
  · show o.val = win0_6.index (pointOf b q) 1 * 256 + 1 * o.val
    rw [hi]
    show o.val = 0 * 256 + 1 * o.val
    omega
  · show 512 * q.val + s.val = win0_6.index (pointOf b q) 2 * 512 + 1 * s.val
    rw [hi]
    show 512 * q.val + s.val = q.val * 512 + 1 * s.val
    omega

section
variable (X : FVec Ideal S8x256x64x64 .f32) (A : FVec Ideal S18x256x3x3 .f32) (a : FVec Ideal S18 .f32) (B : FVec Ideal S9x256x3x3 .f32)
  (bm : FVec Ideal S9 .f32) (W : FVec Ideal S256x256x3x3 .f32) (bias : FVec Ideal S256 .f32)

/-- What tap `k` adds to channel `o` of image `b` at position `s` of tile `q`, over the arguments. -/
def tapOf (b q : Fin 8) (k : Fin 9) (o : Fin 256) (s : Fin 512) : EReal :=
  tapAt q (fun y : S1x4240x256.Idx => opX0 X (ix3 b (y 1) (y 2))) (fun y : S1x256x4096.Idx => opX1 X (ix3 b (y 1) (y 2)))
    (opW A B) (opB a bm) (opW2 W) k o s

/-- The kernel's result over the arguments. -/
def kernelOut : FVec Ideal S8x256x64x64 .f32 := fun j =>
  bias (ix1 (j 1)) + ∑ k : Fin 9, tapOf X A a B bm W (j 0) ⟨(j 2).val / 8, by have : (j 2).val < 64 := (j 2).isLt; omega⟩ k (j 1)
    ⟨(j 2).val % 8 * 64 + (j 3).val, by have : (j 3).val < 64 := (j 3).isLt; omega⟩
end

theorem outs_apply (b q : Fin 8) (o : Fin 256) (s : Fin 512) :
    outsAt0 m c (pointOf b q) (ix3 0 o s) = ((show FVec Ideal S256 .f32 from m ((c.tc : Thread nD τ).loc main_arg6)) (ix1 o) : EReal)
      + ∑ k : Fin 9, tapOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) b q k o s := by
  unfold outsAt0
  rw [iblk0_eq, iblk1_eq, iblk2_eq, iblk3_eq, iblk4_eq, iblk5_eq, V_v3, V_v5, V_v9, V_v11, V_v14, V_v15]
  refine (bodyOut_apply _ q (pointOf_coords b q).2 _ _ _ _ _ _ o s).trans ?_
  rw [opBias_apply]
  rfl

/-- The result: the reshape of the array of blocks. -/
theorem result_eq : Pipeline.afterTail₀ cfgs (dats m) 0 (V0 m) [hostOps1] c main_v17
    = kernelOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  have ha : ∀ (Y : FVec Ideal S8x256x4096 .f32) (j : S8x256x64x64.Idx),
      shapeCast S8x256x64x64 Y shapeCasts_S8x256x4096_S8x256x64x64 j = Y (ix3 (j 0) (j 1) ⟨(j 2).val * 64 + (j 3).val, by
        have : (j 2).val < 64 := (j 2).isLt
        have : (j 3).val < 64 := (j 3).isLt
        omega⟩) := by
    intro Y j
    pointwise
  unfold Pipeline.afterTail₀ hostOps1
  simp only [List.flatten_cons, List.flatten_nil, List.append_nil, List.cons_append, List.nil_append]
  after_results
  have hw := Pipeline.withArrays_arr spec0 launch0.win.arr_inj c (V0 m c) (fun w => (dats m 0 c).arrAt w cfg0.N) 6
  funext j
  have h2 : (j 2).val < 64 := (j 2).isLt
  have h3 : (j 3).val < 64 := (j 3).isLt
  show shapeCast S8x256x64x64 (Pipeline.withArrays (cfgs 0).spec c (V0 m c) (fun w => (dats m 0 c).arrAt w (cfgs 0).N) (Proc.devRef .tc main_v16))
    shapeCasts_S8x256x4096_S8x256x64x64 j = _
  refine (ha _ j).trans ((congrFun hw _).trans ?_)
  refine Eq.trans (congrArg ((dats m 0 c).arrAt 6 cfg0.N) ?_) ((arr_apply m c (j 0) ⟨(j 2).val / 8, by omega⟩ (j 1) ⟨(j 2).val % 8 * 64 + (j 3).val, by omega⟩).trans
    (outs_apply m c (j 0) ⟨(j 2).val / 8, by omega⟩ (j 1) ⟨(j 2).val % 8 * 64 + (j 3).val, by omega⟩))
  refine congrArg (ix3 (j 0) (j 1)) (Fin.ext ?_)
  show (j 2).val * 64 + (j 3).val = 512 * ((j 2).val / 8) + ((j 2).val % 8 * 64 + (j 3).val)
  omega

end Cert.KernelIdeal.Val

end
-- ==== Proof.Math.Spec.lean ====
module

public import Idealize.ShloMosaic.Lib.Pointwise

@[expose] public section

/-! # The deformable convolution of one image, at one position

Everything is stated over one image `X c h v` (channel, row, column) of `256 × 64 × 64` extended reals. -/

noncomputable section

namespace Cert.Math
open Idealize.ShloMosaic

/-- The image with a border of zeros one wide. -/
def padAt (X : Fin 64 → Fin 64 → EReal) (r q : ℕ) : EReal :=
  if h : (1 ≤ r ∧ r - 1 < 64) ∧ 1 ≤ q ∧ q - 1 < 64 then X ⟨r - 1, h.1.2⟩ ⟨q - 1, h.2.2⟩ else 0

/-- One place of the window: the channels' sum of products. -/
def tap (X : Fin 256 → Fin 64 → Fin 64 → EReal) (w : Fin 256 → Fin 3 → Fin 3 → EReal) (h v : Fin 64) (a b : Fin 3) : EReal :=
  ∑ c, padAt (X c) (a.val + h.val) (b.val + v.val) * w c a b

/-- The convolution with a window of three by three and a border of one. -/
def conv (X : Fin 256 → Fin 64 → Fin 64 → EReal) (w : Fin 256 → Fin 3 → Fin 3 → EReal) (β : EReal) (h v : Fin 64) : EReal :=
  tap X w h v 0 0 + tap X w h v 0 1 + tap X w h v 0 2 + tap X w h v 1 0 + tap X w h v 1 1 + tap X w h v 1 2
    + tap X w h v 2 0 + tap X w h v 2 1 + tap X w h v 2 2 + β

/-- The largest coordinate, as the programs write it. -/
def top : EReal := Ideal.ofBits .f32 1115422720#32

/-- A coordinate brought into the grid, as a word. -/
def clampIdx (v : EReal) : BitVec 32 := FloatOps.fptosi (F := Ideal) (φ := .f32) 32 (min (max v 0) top)

/-- The position of a clamped corner, as a word. -/
def gridIdx (yc xc : EReal) : BitVec 32 := IntOp.addi (IntOp.muli (clampIdx yc) 64#32) (clampIdx xc)

/-- The same, a negative position counted from the end. -/
def wrapIdx (yc xc : EReal) : BitVec 32 :=
  Scalar.select (IntOp.cmpi .slt (gridIdx yc xc) 0#32) (IntOp.addi (gridIdx yc xc) 4096#32) (gridIdx yc xc)

/-- The element of the flattened image that a corner reads. -/
def cornerIdx (yc xc : EReal) : Fin 4096 := ⟨min (wrapIdx yc xc).toInt.toNat (4096 - 1), by omega⟩

/-- One when the corner lies in the image, zero otherwise. -/
def inGrid (yc xc : EReal) : EReal :=
  FloatOps.uitofp (F := Ideal) .f32 (IntOp.andi (IntOp.andi (IntOp.andi (BitVec.ofBool (decide (0 ≤ yc))) (BitVec.ofBool (decide (yc ≤ top))))
    (BitVec.ofBool (decide (0 ≤ xc)))) (BitVec.ofBool (decide (xc ≤ top))))

/-- A corner's share of the sample. -/
def corner (X : Fin 4096 → EReal) (yc xc w : EReal) : EReal := X (cornerIdx yc xc) * (w * inGrid yc xc)

/-- The integer below. -/
def below (y : EReal) : EReal := Ideal.liftRound Int.floor y

/-- The bilinear sample of a flattened image at a place of the plane, zero outside the image. -/
def bilinear (X : Fin 4096 → EReal) (py px : EReal) : EReal :=
  corner X (below py) (below px) ((1 - (py - below py)) * (1 - (px - below px)))
    + corner X (below py) (below px + 1) ((1 - (py - below py)) * (px - below px))
    + corner X (below py + 1) (below px) ((py - below py) * (1 - (px - below px)))
    + corner X (below py + 1) (below px + 1) ((py - below py) * (px - below px))

section
variable (X : Fin 256 → Fin 64 → Fin 64 → EReal) (A : Fin 18 → Fin 256 → Fin 3 → Fin 3 → EReal) (α : Fin 18 → EReal)
  (B : Fin 9 → Fin 256 → Fin 3 → Fin 3 → EReal) (β : Fin 9 → EReal) (W : Fin 256 → Fin 256 → Fin 3 → Fin 3 → EReal) (γ : Fin 256 → EReal)

/-- The row that tap `k` samples. -/
def sampleRow (k : Fin 9) (h v : Fin 64) : EReal :=
  conv X (A ⟨k.val * 2, by omega⟩) (α ⟨k.val * 2, by omega⟩) h v + (((h.val : ℝ) - 1 : ℝ) : EReal) + (((k.val / 3 : ℕ) : ℝ) : EReal)

/-- The column that tap `k` samples. -/
def sampleCol (k : Fin 9) (h v : Fin 64) : EReal :=
  conv X (A ⟨k.val * 2 + 1, by omega⟩) (α ⟨k.val * 2 + 1, by omega⟩) h v + (((v.val : ℝ) - 1 : ℝ) : EReal) + (((k.val % 3 : ℕ) : ℝ) : EReal)

/-- Tap `k`'s modulation. -/
def modulation (k : Fin 9) (h v : Fin 64) : EReal :=
  Ideal.ofBits .f32 0x40000000#32 * Ideal.logistic (conv X (B k) (β k) h v)

/-- The deformable convolution's output channel `o`. -/
def deform (o : Fin 256) (h v : Fin 64) : EReal :=
  (∑ c, ∑ k : Fin 9, bilinear (fun p => X c ⟨p.val / 64, by omega⟩ ⟨p.val % 64, by omega⟩) (sampleRow X A α k h v) (sampleCol X A α k h v)
      * modulation X B β k h v * W o c ⟨k.val / 3, by omega⟩ ⟨k.val % 3, by omega⟩) + γ o
end

end Cert.Math

end
-- ==== Proof.Math.Corner.lean ====
module

public import proofs.«01_k».proof.Proof.Math.Spec

@[expose] public section

/-! # A corner of the bilinear sample, read as an element or zero -/

noncomputable section

namespace Cert.Math
open Idealize.ShloMosaic

theorem top_eq : top = ((63 : ℝ) : EReal) := by
  unfold top
  simp [Ideal.ofBits, Ideal.ieee]
  rw [← EReal.coe_mul]
  norm_num

theorem inGrid_eq (yc xc : EReal) : inGrid yc xc = if ((0 ≤ yc ∧ yc ≤ top) ∧ 0 ≤ xc) ∧ xc ≤ top then 1 else 0 := by
  have key : ∀ a b c d : Bool, (IntOp.andi (IntOp.andi (IntOp.andi (BitVec.ofBool a) (BitVec.ofBool b)) (BitVec.ofBool c)) (BitVec.ofBool d)).toNat
      = if ((a = true ∧ b = true) ∧ c = true) ∧ d = true then 1 else 0 := by decide
  unfold inGrid
  show (((IntOp.andi (IntOp.andi (IntOp.andi (BitVec.ofBool (decide (0 ≤ yc))) (BitVec.ofBool (decide (yc ≤ top))))
    (BitVec.ofBool (decide (0 ≤ xc)))) (BitVec.ofBool (decide (xc ≤ top)))).toNat : ℝ) : EReal) = _
  rw [key]
  simp only [decide_eq_true_eq]
  split_ifs <;> simp

/-- Inside the grid the clamp leaves the coordinate, as a word. -/
theorem clampIdx_nat (a : Fin 64) : clampIdx (((a.val : ℤ) : ℝ) : EReal) = BitVec.ofNat 32 a.val := by
  have h63 : ((a.val : ℤ) : ℝ) ≤ 63 := by
    have : (a.val : ℝ) ≤ 63 := by exact_mod_cast (by omega : a.val ≤ 63)
    simpa using this
  have h0 : (0 : ℝ) ≤ ((a.val : ℤ) : ℝ) := by positivity
  unfold clampIdx
  rw [top_eq, max_eq_left (by exact_mod_cast h0), min_eq_left (by exact_mod_cast h63)]
  show BitVec.ofInt 32 (max _ (min _ (if 0 ≤ ((a.val : ℤ) : ℝ) then ⌊((a.val : ℤ) : ℝ)⌋ else ⌈((a.val : ℤ) : ℝ)⌉))) = _
  rw [if_pos h0, Int.floor_intCast, min_eq_right (by norm_num; omega), max_eq_right (by norm_num)]
  rfl

theorem word_at (a b : Fin 64) :
    (Scalar.select (IntOp.cmpi .slt (IntOp.addi (IntOp.muli (BitVec.ofNat 32 a.val) 64#32) (BitVec.ofNat 32 b.val)) 0#32)
      (IntOp.addi (IntOp.addi (IntOp.muli (BitVec.ofNat 32 a.val) 64#32) (BitVec.ofNat 32 b.val)) 4096#32)
      (IntOp.addi (IntOp.muli (BitVec.ofNat 32 a.val) 64#32) (BitVec.ofNat 32 b.val))).toInt.toNat = 64 * a.val + b.val := by
  revert a b
  decide +kernel

theorem cornerIdx_nat (a b : Fin 64) :
    cornerIdx (((a.val : ℤ) : ℝ) : EReal) (((b.val : ℤ) : ℝ) : EReal) = ⟨64 * a.val + b.val, by omega⟩ := by
  refine Fin.ext ?_
  show min (wrapIdx _ _).toInt.toNat (4096 - 1) = 64 * a.val + b.val
  unfold wrapIdx gridIdx
  rw [clampIdx_nat, clampIdx_nat, word_at]
  omega

/-- A corner in the grid is the element there, weighted. -/
theorem corner_in (X : Fin 4096 → EReal) (a b : Fin 64) (w : EReal) :
    corner X (((a.val : ℤ) : ℝ) : EReal) (((b.val : ℤ) : ℝ) : EReal) w = X ⟨64 * a.val + b.val, by omega⟩ * w := by
  have h : ∀ c : Fin 64, (0 : EReal) ≤ (((c.val : ℤ) : ℝ) : EReal) ∧ (((c.val : ℤ) : ℝ) : EReal) ≤ top := by
    intro c
    have h63 : ((c.val : ℤ) : ℝ) ≤ 63 := by
      have : (c.val : ℝ) ≤ 63 := by exact_mod_cast (by omega : c.val ≤ 63)
      simpa using this
    have h0 : (0 : ℝ) ≤ ((c.val : ℤ) : ℝ) := by positivity
    rw [top_eq]
    exact ⟨by exact_mod_cast h0, by exact_mod_cast h63⟩
  unfold corner
  rw [cornerIdx_nat, inGrid_eq, if_pos ⟨⟨h a, (h b).1⟩, (h b).2⟩, mul_one]

/-- A corner outside the grid adds nothing. -/
theorem corner_out (X : Fin 4096 → EReal) (yc xc w : EReal) (h : ¬(((0 ≤ yc ∧ yc ≤ top) ∧ 0 ≤ xc) ∧ xc ≤ top)) :
    corner X yc xc w = 0 := by
  unfold corner
  rw [inGrid_eq, if_neg h, mul_zero, mul_zero]

end Cert.Math

end
-- ==== Proof.Math.Bilinear.lean ====
module

public import proofs.«01_k».proof.Proof.Math.Hat
public import proofs.«01_k».proof.Proof.Math.Corner

@[expose] public section

/-! # Sampling by hats is sampling by corners

The hat at distance `y - r` from a whole number `r` is nonzero at two of them only, the two around `y`, where
it is the bilinear weight. -/

noncomputable section

namespace Cert.Math
open Idealize.ShloMosaic

/-- The hat of a real number. -/
theorem hat_coe (a : ℝ) : hat (a : EReal) = ((max (1 - |a|) 0 : ℝ) : EReal) := by
  unfold hat
  have h : max (a : EReal) (-(a : EReal)) = ((|a| : ℝ) : EReal) := by
    rw [← EReal.coe_neg, abs_eq_max_neg]
    exact (EReal.coe_strictMono.monotone.map_max).symm
  rw [h, ← EReal.coe_one, ← EReal.coe_sub, ← EReal.coe_zero]
  exact (EReal.coe_strictMono.monotone.map_max).symm

/-- The two whole numbers around `y`, and their weights. -/
theorem hat_split (y : ℝ) (r : ℤ) : max (1 - |y - (r : ℝ)|) 0
    = (if r = ⌊y⌋ then 1 - (y - (⌊y⌋ : ℝ)) else 0) + (if r = ⌊y⌋ + 1 then y - (⌊y⌋ : ℝ) else 0) := by
  have h0 := Int.floor_le y
  have h1 := Int.lt_floor_add_one y
  rcases lt_trichotomy r ⌊y⌋ with h | h | h
  · have h' : (r : ℝ) + 1 ≤ (⌊y⌋ : ℝ) := by exact_mod_cast h
    rw [if_neg (by omega), if_neg (by omega), abs_of_nonneg (by linarith), max_eq_right (by linarith), add_zero]
  · subst h
    rw [if_pos rfl, if_neg (by omega), abs_of_nonneg (by linarith), max_eq_left (by linarith), add_zero]
  · rcases eq_or_lt_of_le (Int.add_one_le_iff.mpr h) with e | e
    · rw [if_neg (by omega), if_pos e.symm, ← e]
      push_cast
      rw [abs_of_nonpos (by linarith), max_eq_left (by linarith)]
      ring
    · have h' : (⌊y⌋ : ℝ) + 1 + 1 ≤ (r : ℝ) := by exact_mod_cast e
      rw [if_neg (by omega), if_neg (by omega), abs_of_nonpos (by linarith), max_eq_right (by linarith), add_zero]

/-- The hat is zero at an infinite distance. -/
theorem hat_top (r : ℝ) : hat (⊤ - (r : EReal)) = 0 := by
  unfold hat
  rw [EReal.top_sub_coe]
  simp

theorem hat_bot (r : ℝ) : hat (⊥ - (r : EReal)) = 0 := by
  unfold hat
  rw [EReal.bot_sub]
  simp

/-- A sum over the positions in which one row and one column only have weight. -/
theorem sum_corner (X : Fin 4096 → EReal) (m n : ℤ) (α β : ℝ) :
    ∑ p : Fin 4096, X p * (((if ((p.val / 64 : ℕ) : ℤ) = m then α else 0) * (if ((p.val % 64 : ℕ) : ℤ) = n then β else 0) : ℝ) : EReal)
      = corner X ((m : ℝ) : EReal) ((n : ℝ) : EReal) ((α * β : ℝ) : EReal) := by
  by_cases h : ((0 ≤ m ∧ m ≤ 63) ∧ 0 ≤ n) ∧ n ≤ 63
  · obtain ⟨⟨⟨h1, h2⟩, h3⟩, h4⟩ := h
    obtain ⟨a, rfl⟩ : ∃ a : Fin 64, m = (a.val : ℤ) := ⟨⟨m.toNat, by omega⟩, by simp; omega⟩
    obtain ⟨b, rfl⟩ : ∃ b : Fin 64, n = (b.val : ℤ) := ⟨⟨n.toNat, by omega⟩, by simp; omega⟩
    rw [corner_in, Finset.sum_eq_single ⟨64 * a.val + b.val, by omega⟩]
    · rw [if_pos (by show (((64 * a.val + b.val) / 64 : ℕ) : ℤ) = _; omega), if_pos (by show (((64 * a.val + b.val) % 64 : ℕ) : ℤ) = _; omega)]
    · intro p _ hp
      have hne : ¬(((p.val / 64 : ℕ) : ℤ) = (a.val : ℤ) ∧ ((p.val % 64 : ℕ) : ℤ) = (b.val : ℤ)) := by
        rintro ⟨e1, e2⟩
        exact hp (Fin.ext (by show p.val = 64 * a.val + b.val; omega))
      by_cases e1 : ((p.val / 64 : ℕ) : ℤ) = (a.val : ℤ)
      · rw [if_neg (fun e2 => hne ⟨e1, e2⟩), mul_zero, EReal.coe_zero, mul_zero]
      · rw [if_neg e1, zero_mul, EReal.coe_zero, mul_zero]
    · intro hp
      exact absurd (Finset.mem_univ _) hp
  · rw [corner_out]
    · refine Finset.sum_eq_zero fun p _ => ?_
      by_cases e1 : ((p.val / 64 : ℕ) : ℤ) = m
      · rw [if_neg (fun e2 : ((p.val % 64 : ℕ) : ℤ) = n => h ⟨⟨⟨by omega, by omega⟩, by omega⟩, by omega⟩), mul_zero, EReal.coe_zero, mul_zero]
      · rw [if_neg e1, zero_mul, EReal.coe_zero, mul_zero]
    · rw [top_eq]
      intro h'
      apply h
      obtain ⟨⟨⟨h1, h2⟩, h3⟩, h4⟩ := h'
      exact ⟨⟨⟨by exact_mod_cast h1, by exact_mod_cast h2⟩, by exact_mod_cast h3⟩, by exact_mod_cast h4⟩

/-- Four nonnegative weights of one element. -/
theorem mul_four (x : EReal) (a b c d : ℝ) (ha : 0 ≤ a) (hb : 0 ≤ b) (hc : 0 ≤ c) (hd : 0 ≤ d) :
    x * (((a + b) * (c + d) : ℝ) : EReal) = x * ((a * c : ℝ) : EReal) + x * ((a * d : ℝ) : EReal) + x * ((b * c : ℝ) : EReal) + x * ((b * d : ℝ) : EReal) := by
  have e : (a + b) * (c + d) = a * c + a * d + b * c + b * d := by ring
  have h : ∀ r s : ℝ, 0 ≤ r → 0 ≤ s → x * ((r + s : ℝ) : EReal) = x * (r : EReal) + x * (s : EReal) := by
    intro r s hr hs
    rw [EReal.coe_add]
    exact EReal.left_distrib_of_nonneg (by exact_mod_cast hr) (by exact_mod_cast hs)
  rw [e, h _ _ (by positivity) (by positivity), h _ _ (by positivity) (by positivity), h _ _ (by positivity) (by positivity)]

/-- At a place of the plane. -/
theorem hatSum_coe (X : Fin 4096 → EReal) (y x : ℝ) : hatSum X (y : EReal) (x : EReal) = bilinear X (y : EReal) (x : EReal) := by
  have hy0 := Int.floor_le y
  have hy1 := Int.lt_floor_add_one y
  have hx0 := Int.floor_le x
  have hx1 := Int.lt_floor_add_one x
  have hb : ∀ z : ℝ, below (z : EReal) = (((⌊z⌋ : ℤ) : ℝ) : EReal) := fun z => rfl
  have hb1 : ∀ z : ℝ, below (z : EReal) + 1 = (((⌊z⌋ + 1 : ℤ) : ℝ) : EReal) := fun z => by rw [hb]; push_cast; rfl
  have hf : ∀ z : ℝ, (z : EReal) - (((⌊z⌋ : ℤ) : ℝ) : EReal) = ((z - (⌊z⌋ : ℝ) : ℝ) : EReal) := fun z => (EReal.coe_sub _ _).symm
  have hg : ∀ z : ℝ, (1 : EReal) - ((z : EReal) - (((⌊z⌋ : ℤ) : ℝ) : EReal)) = ((1 - (z - (⌊z⌋ : ℝ)) : ℝ) : EReal) := fun z => by
    rw [hf, EReal.coe_sub 1, EReal.coe_one]
  unfold bilinear
  rw [hb1 y, hb1 x, hb y, hb x, hg y, hg x, hf y, hf x]
  simp only [← EReal.coe_mul]
  rw [← sum_corner, ← sum_corner, ← sum_corner, ← sum_corner, ← Finset.sum_add_distrib, ← Finset.sum_add_distrib, ← Finset.sum_add_distrib]
  unfold hatSum
  refine Finset.sum_congr rfl fun p _ => ?_
  have hh : ∀ (z : ℝ) (r : ℕ), hat ((z : EReal) - ((r : ℝ) : EReal))
      = (((if (r : ℤ) = ⌊z⌋ then 1 - (z - (⌊z⌋ : ℝ)) else 0) + (if (r : ℤ) = ⌊z⌋ + 1 then z - (⌊z⌋ : ℝ) else 0) : ℝ) : EReal) := by
    intro z r
    rw [← hat_split, ← EReal.coe_sub, hat_coe, Int.cast_natCast]
  rw [hh, hh, ← EReal.coe_mul]
  refine mul_four _ _ _ _ _ ?_ ?_ ?_ ?_ <;> split_ifs <;> linarith

/-- An infinite row or column lies outside the grid. -/
theorem bilinear_out (X : Fin 4096 → EReal) (py px : EReal) (h : (py = ⊤ ∨ py = ⊥) ∨ px = ⊤ ∨ px = ⊥) : bilinear X py px = 0 := by
  have ht : ∀ z : EReal, z = ⊤ ∨ z = ⊥ → ¬(0 ≤ below z ∧ below z ≤ top) ∧ ¬(0 ≤ below z + 1 ∧ below z + 1 ≤ top) := by
    have t : ¬((⊤ : EReal) ≤ top) := by rw [top_eq]; simp
    have b : ¬((0 : EReal) ≤ ⊥) := by simp
    rintro z (rfl | rfl)
    · exact ⟨fun h => t h.2, fun h => t (le_of_eq_of_le (by show (⊤ : EReal) = ⊤ + 1; rfl) h.2)⟩
    · exact ⟨fun h => b h.1, fun h => b (le_of_le_of_eq h.1 (by show (⊥ : EReal) + 1 = ⊥; rfl))⟩
  unfold bilinear
  rcases h with h | h
  · have := ht py h
    rw [corner_out _ _ _ _ (fun g => this.1 g.1.1), corner_out _ _ _ _ (fun g => this.1 g.1.1), corner_out _ _ _ _ (fun g => this.2 g.1.1),
      corner_out _ _ _ _ (fun g => this.2 g.1.1)]
    simp
  · have := ht px h
    rw [corner_out _ _ _ _ (fun g => this.1 ⟨g.1.2, g.2⟩), corner_out _ _ _ _ (fun g => this.2 ⟨g.1.2, g.2⟩), corner_out _ _ _ _ (fun g => this.1 ⟨g.1.2, g.2⟩),
      corner_out _ _ _ _ (fun g => this.2 ⟨g.1.2, g.2⟩)]
    simp

theorem hatSum_out (X : Fin 4096 → EReal) (py px : EReal) (h : (py = ⊤ ∨ py = ⊥) ∨ px = ⊤ ∨ px = ⊥) : hatSum X py px = 0 := by
  have ht : ∀ (z : EReal) (r : ℝ), z = ⊤ ∨ z = ⊥ → hat (z - (r : EReal)) = 0 := by
    rintro z r (rfl | rfl)
    · exact hat_top r
    · exact hat_bot r
  unfold hatSum
  refine Finset.sum_eq_zero fun p _ => ?_
  rcases h with h | h
  · rw [ht _ _ h, zero_mul, mul_zero]
  · rw [ht _ _ h, mul_zero, mul_zero]

/-- The sum of hats over all positions is the bilinear sample. -/
theorem hatSum_eq (X : Fin 4096 → EReal) (py px : EReal) : hatSum X py px = bilinear X py px := by
  by_cases h : (py = ⊤ ∨ py = ⊥) ∨ px = ⊤ ∨ px = ⊥
  · rw [hatSum_out _ _ _ h, bilinear_out _ _ _ h]
  · obtain ⟨⟨h1, h2⟩, h3, h4⟩ : (¬py = ⊤ ∧ ¬py = ⊥) ∧ ¬px = ⊤ ∧ ¬px = ⊥ := by tauto
    lift py to ℝ using ⟨h1, h2⟩
    lift px to ℝ using ⟨h3, h4⟩
    exact hatSum_coe X py px

end Cert.Math

end
-- ==== Proof.Ker.Match.lean ====
module

public import proofs.«01_k».proof.Proof.Ker.Array
public import proofs.«01_k».proof.Proof.Math.Bilinear

@[expose] public section
set_option maxRecDepth 16384

/-! # The kernel computes the deformable convolution -/

noncomputable section

namespace Cert.KernelIdeal.Val

open Cert.KernelIdeal Cert.KernelIdeal.Gen Cert.KernelIdeal.Body Cert.Math
open Idealize.ShloMosaic Idealize.ShloMosaic.TcCoe

variable (X : FVec Ideal S8x256x64x64 .f32) (A : FVec Ideal S18x256x3x3 .f32) (a : FVec Ideal S18 .f32) (B : FVec Ideal S9x256x3x3 .f32)
  (bm : FVec Ideal S9 .f32) (W : FVec Ideal S256x256x3x3 .f32) (γ : FVec Ideal S256 .f32)

/-- Image `b`, by channel, row and column. -/
def img (b : Fin 8) : Fin 256 → Fin 64 → Fin 64 → EReal := fun c h v => X (ix4 b c h v)

/-- The rows of image `b` that its window holds. -/
def rows (b : Fin 8) : FVec Ideal S1x4240x256 .bf16 := fun y : S1x4240x256.Idx => opX0 X (ix3 b (y 1) (y 2))

/-- The row and the column of position `t` of tile `q`. -/
def rowOf (q : Fin 8) (t : Fin 512) : Fin 64 := ⟨8 * q.val + t.val / 64, by omega⟩
@[inherit_doc rowOf] def colOf (t : Fin 512) : Fin 64 := ⟨t.val % 64, by omega⟩

section
variable (b q : Fin 8) (x2 : FVec Ideal S9x256x27 .bf16) (n : Fin 27) (w : Fin 256 → Fin 3 → Fin 3 → EReal)
  (hw : ∀ (c : Fin 256) (d : Fin 9), x2 (ix3 d c n) = w c ⟨d.val / 3, by omega⟩ ⟨d.val % 3, by omega⟩)
include hw

/-- A row of the padded image, at a column of the image, is the image with its border. -/
theorem tapSum_eq (i j : Fin 3) (t : Fin 512) (hj : 1 ≤ j.val + t.val % 64 ∧ j.val + t.val % 64 ≤ 64) :
    tapSum q (rows X b) x2 i j n t = tap (img X b) w (rowOf q t) (colOf t) i j := by
  unfold tapSum tap
  refine Finset.sum_congr rfl fun c _ => ?_
  refine congrArg₂ (· * ·) ?_ ((hw c _).trans (congrArg₂ (w c) (Fin.ext (by show (3 * i.val + j.val) / 3 = i.val; omega))
    (Fin.ext (by show (3 * i.val + j.val) % 3 = j.val; omega))))
  refine (opX0_apply X b _ c).trans ?_
  show (if h : 72 ≤ 512 * q.val + 64 * i.val + 7 + j.val + t.val ∧ 512 * q.val + 64 * i.val + 7 + j.val + t.val < 4168 then
      X (ix4 b c ⟨(512 * q.val + 64 * i.val + 7 + j.val + t.val - 72) / 64, _⟩ ⟨(512 * q.val + 64 * i.val + 7 + j.val + t.val - 72) % 64, _⟩) else 0)
    = padAt (img X b c) (i.val + (8 * q.val + t.val / 64)) (j.val + t.val % 64)
  unfold padAt
  by_cases h : 72 ≤ 512 * q.val + 64 * i.val + 7 + j.val + t.val ∧ 512 * q.val + 64 * i.val + 7 + j.val + t.val < 4168
  · rw [dif_pos h, dif_pos (by omega)]
    exact congrArg₂ (fun x y => X (ix4 b c x y)) (Fin.ext (by
      show (512 * q.val + 64 * i.val + 7 + j.val + t.val - 72) / 64 = i.val + (8 * q.val + t.val / 64) - 1
      omega)) (Fin.ext (by
      show (512 * q.val + 64 * i.val + 7 + j.val + t.val - 72) % 64 = j.val + t.val % 64 - 1
      omega))
  · rw [dif_neg h, dif_neg (by omega)]

omit hw in
/-- Outside the columns of the image the border is zero. -/
theorem tap_out (i j : Fin 3) (h v : Fin 64) (hj : ¬(1 ≤ j.val + v.val ∧ j.val + v.val ≤ 64)) : tap (img X b) w h v i j = 0 := by
  unfold tap
  refine Finset.sum_eq_zero fun c _ => ?_
  unfold padAt
  rw [dif_neg (by omega), zero_mul]

/-- The tile's convolution is the image's. -/
theorem convAt_eq (x3 : FVec Ideal S1x27 .f32) (t : Fin 512) :
    convAt q (rows X b) x2 x3 n t = conv (img X b) w (x3 (ix2 0 n)) (rowOf q t) (colOf t) := by
  have hl : ∀ i : Fin 3, tapSum q (rows X b) x2 i 0 n t * maskL t = tap (img X b) w (rowOf q t) (colOf t) i 0 := by
    intro i
    unfold maskL
    by_cases h : 1 ≤ t.val % 64
    · rw [if_pos h, mul_one, tapSum_eq X b q x2 n w hw i 0 t (by show 1 ≤ 0 + t.val % 64 ∧ 0 + t.val % 64 ≤ 64; omega)]
    · rw [if_neg h, mul_zero, tap_out X b w i 0 _ _ (by show ¬(1 ≤ 0 + t.val % 64 ∧ 0 + t.val % 64 ≤ 64); omega)]
  have hr : ∀ i : Fin 3, tapSum q (rows X b) x2 i 2 n t * maskR t = tap (img X b) w (rowOf q t) (colOf t) i 2 := by
    intro i
    unfold maskR
    by_cases h : t.val % 64 ≤ 62
    · rw [if_pos h, mul_one, tapSum_eq X b q x2 n w hw i 2 t (by show 1 ≤ 2 + t.val % 64 ∧ 2 + t.val % 64 ≤ 64; omega)]
    · rw [if_neg h, mul_zero, tap_out X b w i 2 _ _ (by show ¬(1 ≤ 2 + t.val % 64 ∧ 2 + t.val % 64 ≤ 64); omega)]
  have hm : ∀ i : Fin 3, tapSum q (rows X b) x2 i 1 n t = tap (img X b) w (rowOf q t) (colOf t) i 1 := fun i =>
    tapSum_eq X b q x2 n w hw i 1 t (by show 1 ≤ 1 + t.val % 64 ∧ 1 + t.val % 64 ≤ 64; omega)
  have dl : (tapSum q (rows X b) x2 0 0 n t + tapSum q (rows X b) x2 1 0 n t + tapSum q (rows X b) x2 2 0 n t) * maskL t
      = tapSum q (rows X b) x2 0 0 n t * maskL t + tapSum q (rows X b) x2 1 0 n t * maskL t + tapSum q (rows X b) x2 2 0 n t * maskL t := by
    unfold maskL
    split_ifs <;> simp
  have dr : (tapSum q (rows X b) x2 0 2 n t + tapSum q (rows X b) x2 1 2 n t + tapSum q (rows X b) x2 2 2 n t) * maskR t
      = tapSum q (rows X b) x2 0 2 n t * maskR t + tapSum q (rows X b) x2 1 2 n t * maskR t + tapSum q (rows X b) x2 2 2 n t * maskR t := by
    unfold maskR
    split_ifs <;> simp
  unfold convAt conv
  rw [dl, dr, hl, hl, hl, hr, hr, hr, hm, hm, hm]
  abel
end

/-- An offset channel of the tile's convolution. -/
theorem offset_eq (b q : Fin 8) (n : Fin 27) (m : Fin 18) (hm : n.val = m.val) (t : Fin 512) :
    convAt q (rows X b) (opW A B) (opB a bm) n t = conv (img X b) (fun c i j => A (ix4 m c i j)) (a (ix1 m)) (rowOf q t) (colOf t) := by
  have hn : n.val < 18 := by omega
  obtain rfl : m = ⟨n.val, hn⟩ := Fin.ext hm.symm
  rw [convAt_eq X b q (opW A B) n (fun c i j => A (ix4 ⟨n.val, hn⟩ c i j)) (fun c d => by rw [opW_apply, dif_pos hn]), opB_apply, dif_pos hn]

/-- A modulation channel of the tile's convolution. -/
theorem modulation_eq (b q : Fin 8) (k : Fin 9) (t : Fin 512) :
    modAt q (rows X b) (opW A B) (opB a bm) k t
      = modulation (img X b) (fun n c i j => B (ix4 n c i j)) (fun n => bm (ix1 n)) k (rowOf q t) (colOf t) := by
  have hk : (⟨18 + k.val - 18, by omega⟩ : Fin 9) = k := Fin.ext (by show 18 + k.val - 18 = k.val; omega)
  unfold modAt modulation
  rw [convAt_eq X b q (opW A B) ⟨18 + k.val, by omega⟩ (fun c i j => B (ix4 k c i j))
    (fun c d => by rw [opW_apply, dif_neg (by show ¬ 18 + k.val < 18; omega)]; exact congrArg (fun z => B (ix4 z c _ _)) hk),
    opB_apply, dif_neg (by show ¬ 18 + k.val < 18; omega)]
  exact congrArg (fun z => _ * Ideal.logistic (conv _ _ (bm (ix1 z)) _ _)) hk

/-- The row that a tap samples. -/
theorem rowAt_eq (b q : Fin 8) (k : Fin 9) (t : Fin 512) :
    rowAt q (rows X b) (opW A B) (opB a bm) k t
      = sampleRow (img X b) (fun n c i j => A (ix4 n c i j)) (fun n => a (ix1 n)) k (rowOf q t) (colOf t) := by
  unfold rowAt sampleRow
  rw [offset_eq X A a B bm b q ⟨2 * k.val, by omega⟩ ⟨k.val * 2, by omega⟩ (by show 2 * k.val = k.val * 2; omega) t, add_assoc, add_assoc, ← EReal.coe_add, ← EReal.coe_add]
  refine congrArg (fun z : ℝ => _ + (z : EReal)) ?_
  show ((8 * q.val + t.val / 64 : ℕ) : ℝ) + (((k.val / 3 : ℕ) : ℝ) - 1) = (((8 * q.val + t.val / 64 : ℕ) : ℝ) - 1) + ((k.val / 3 : ℕ) : ℝ)
  ring

/-- The column that a tap samples. -/
theorem colAt_eq (b q : Fin 8) (k : Fin 9) (t : Fin 512) :
    colAt q (rows X b) (opW A B) (opB a bm) k t
      = sampleCol (img X b) (fun n c i j => A (ix4 n c i j)) (fun n => a (ix1 n)) k (rowOf q t) (colOf t) := by
  unfold colAt sampleCol
  rw [offset_eq X A a B bm b q ⟨2 * k.val + 1, by omega⟩ ⟨k.val * 2 + 1, by omega⟩ (by show 2 * k.val + 1 = k.val * 2 + 1; omega) t, add_assoc, add_assoc, ← EReal.coe_add, ← EReal.coe_add]
  refine congrArg (fun z : ℝ => _ + (z : EReal)) ?_
  show ((t.val % 64 : ℕ) : ℝ) + (((k.val % 3 : ℕ) : ℝ) - 1) = (((t.val % 64 : ℕ) : ℝ) - 1) + ((k.val % 3 : ℕ) : ℝ)
  ring

/-- A tap's share of the result. -/
theorem tapOf_eq (b q : Fin 8) (k : Fin 9) (o : Fin 256) (t : Fin 512) :
    tapOf X A a B bm W b q k o t = ∑ c, bilinear (fun p => img X b c ⟨p.val / 64, by omega⟩ ⟨p.val % 64, by omega⟩)
        (sampleRow (img X b) (fun n c i j => A (ix4 n c i j)) (fun n => a (ix1 n)) k (rowOf q t) (colOf t))
        (sampleCol (img X b) (fun n c i j => A (ix4 n c i j)) (fun n => a (ix1 n)) k (rowOf q t) (colOf t))
      * modulation (img X b) (fun n c i j => B (ix4 n c i j)) (fun n => bm (ix1 n)) k (rowOf q t) (colOf t)
      * W (ix4 o c ⟨k.val / 3, by omega⟩ ⟨k.val % 3, by omega⟩) := by
  unfold tapOf tapAt
  refine Finset.sum_congr rfl fun c _ => ?_
  rw [opW2_apply, mul_comm, hatSum_eq]
  refine congrArg₂ (· * ·) (congrArg₂ (· * ·) ?_ (modulation_eq X A a B bm b q k t)) rfl
  refine Eq.trans (congrArg (fun Z => bilinear Z _ _) (funext fun p => ?_))
    (congrArg₂ (bilinear _) (rowAt_eq X A a B bm b q k t) (colAt_eq X A a B bm b q k t))
  exact opX1_apply X b c p

/-- The kernel's result at an index. -/
theorem kernel_at (b : Fin 8) (o : Fin 256) (h v : Fin 64) :
    kernelOut X A a B bm W γ (ix4 b o h v)
      = deform (img X b) (fun n c i j => A (ix4 n c i j)) (fun n => a (ix1 n)) (fun n c i j => B (ix4 n c i j)) (fun n => bm (ix1 n))
          (fun o c i j => W (ix4 o c i j)) (fun o => γ (ix1 o)) o h v := by
  have hh : rowOf ⟨h.val / 8, by omega⟩ ⟨h.val % 8 * 64 + v.val, by omega⟩ = h := Fin.ext (by
    show 8 * (h.val / 8) + (h.val % 8 * 64 + v.val) / 64 = h.val
    omega)
  have hv : colOf ⟨h.val % 8 * 64 + v.val, by omega⟩ = v := Fin.ext (by
    show (h.val % 8 * 64 + v.val) % 64 = v.val
    omega)
  show γ (ix1 o) + ∑ k : Fin 9, tapOf X A a B bm W b ⟨h.val / 8, by omega⟩ k o ⟨h.val % 8 * 64 + v.val, by omega⟩ = _
  unfold deform
  rw [add_comm, Finset.sum_comm]
  refine congrArg₂ (· + ·) (Finset.sum_congr rfl fun k _ => ?_) rfl
  rw [tapOf_eq, hh, hv]

end Cert.KernelIdeal.Val

end
-- ==== Proof.Ker.Result.lean ====
module

public import proofs.«01_k».proof.Proof.Ker.Match

@[expose] public section
set_option maxRecDepth 16384

/-! # The kernel's run: its result over the arguments, which it leaves unchanged -/

noncomputable section

namespace Cert.KernelIdeal.Val

open Cert.KernelIdeal Cert.KernelIdeal.Gen Cert.KernelIdeal.Body
open Idealize.ShloMosaic Idealize.ShloMosaic.TcCoe Idealize.SL.Sem

variable (m : (ℓ : Loc nD τ sig) → Buf (Elt Ideal) ℓ) (ρ : Dev nD → PrngReg)

/-- The result of a memory's arguments. -/
def outOf (c : Dev nD) : Buf (Elt Ideal) ((c.tc : Thread nD τ).loc main_v17) :=
  kernelOut (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem run_result : θ_run (defs (F := Ideal)) (onTc (τ := τ) (main (F := Ideal))) ⟨m, fun _ => 0, ρ⟩ (fun r => ∀ c : Dev nD,
      r.2.mem ((c.tc : Thread nD τ).loc main_v17) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ⟨?_, h.2 c⟩) (θ_run_and (run_main m ρ) (unchanged m ρ))
  exact ((h.1 c).2 main_v17 (Pipeline.mem_restRefs_of main_v17 (by decide) (by decide))).trans (result_eq m c)

end Cert.KernelIdeal.Val

end
-- ==== Proof.Ref.Conv.lean ====
module

public import proofs.«01_k».proof.Proof.Gen.ReferenceIdeal.Read
public import proofs.«01_k».proof.Proof.Math.Spec

@[expose] public section
set_option maxRecDepth 16384

/-! # The reference's convolutions and sampling places, at an index -/

noncomputable section

namespace Cert.ReferenceIdeal.Val
open Cert.ReferenceIdeal Cert.ReferenceIdeal.Gen Cert.ReferenceIdeal.Read Cert.Math
open Idealize.ShloMosaic Idealize.ShloMosaic.TcCoe Idealize.ShloMosaic.StableHlo

variable (X : FVec Ideal S8x256x64x64 .f32) (A : FVec Ideal S18x256x3x3 .f32) (a : FVec Ideal S18 .f32)
  (B : FVec Ideal S9x256x3x3 .f32) (β : FVec Ideal S9 .f32) (W : FVec Ideal S256x256x3x3 .f32) (γ : FVec Ideal S256 .f32)

/-- Image `b`, by channel, row and column. -/
def img (b : Fin 8) : Fin 256 → Fin 64 → Fin 64 → EReal := fun c h v => X (ix4 b c h v)

theorem pad_at (b : Fin 8) (c : Fin 256) (r q : Fin 66) : val_main_v0 (F := Ideal) X (ix4 b c r q) = padAt (img X b c) r.val q.val := by
  pointwise [val_main_v0, val_main_cst]
  rfl

theorem pad_at' (b : Fin 8) (c : Fin 256) (r q : Fin 66) : val_main_v57 (F := Ideal) X (ix4 b c r q) = padAt (img X b c) r.val q.val := by
  pointwise [val_main_v57, val_main_cst_0]
  rfl

/-- The offsets. -/
theorem offsets_at (b : Fin 8) (n : Fin 18) (h v : Fin 64) :
    val_main_v56 (F := Ideal) X A a (ix4 b n h v) = conv (img X b) (fun c i j => A (ix4 n c i j)) (a (ix1 n)) h v := by
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56]
  simp only [pad_at]
  simp only [conv, tap, Fin.val_zero, Fin.val_one, Fin.val_two, Nat.zero_add]

/-- The modulation, before its sigmoid. -/
theorem modulations_at (b : Fin 8) (n : Fin 9) (h v : Fin 64) :
    val_main_v113 (F := Ideal) X B β (ix4 b n h v) = conv (img X b) (fun c i j => B (ix4 n c i j)) (β (ix1 n)) h v := by
  pointwise [val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113]
  simp only [pad_at']
  simp only [conv, tap, Fin.val_zero, Fin.val_one, Fin.val_two, Nat.zero_add]

theorem grid_word (h : Fin 64) : (IntOp.subi (IntOp.muli (BitVec.ofNat 32 h.val) 1#32) 1#32).toInt = (h.val : ℤ) - 1 := by
  revert h
  decide +kernel

theorem row_word (k : Fin 9) : (IntOp.divsi ArithUnit.host (BitVec.ofNat 32 k.val) 3#32).toInt = ((k.val / 3 : ℕ) : ℤ) := by
  revert k
  decide +kernel

theorem col_word (k : Fin 9) : (IntOp.remsi ArithUnit.host (BitVec.ofNat 32 k.val) 3#32).toInt = ((k.val % 3 : ℕ) : ℤ) := by
  revert k
  decide +kernel

theorem grid_val (h : Fin 64) : FloatOps.sitofp (F := Ideal) FTy.f32 (IntOp.subi (IntOp.muli (BitVec.ofNat 32 h.val) 1#32) 1#32) = (((h.val : ℝ) - 1 : ℝ) : EReal) := by
  show (((IntOp.subi (IntOp.muli (BitVec.ofNat 32 h.val) 1#32) 1#32).toInt : ℝ) : EReal) = _
  rw [grid_word]
  push_cast
  rfl

theorem row_val (k : Fin 9) : FloatOps.sitofp (F := Ideal) FTy.f32 (IntOp.divsi ArithUnit.host (BitVec.ofNat 32 k.val) 3#32) = (((k.val / 3 : ℕ) : ℝ) : EReal) := by
  show (((IntOp.divsi ArithUnit.host (BitVec.ofNat 32 k.val) 3#32).toInt : ℝ) : EReal) = _
  rw [row_word, Int.cast_natCast]

theorem col_val (k : Fin 9) : FloatOps.sitofp (F := Ideal) FTy.f32 (IntOp.remsi ArithUnit.host (BitVec.ofNat 32 k.val) 3#32) = (((k.val % 3 : ℕ) : ℝ) : EReal) := by
  show (((IntOp.remsi ArithUnit.host (BitVec.ofNat 32 k.val) 3#32).toInt : ℝ) : EReal) = _
  rw [col_word, Int.cast_natCast]

/-- The sampled row. -/
theorem row_at (b : Fin 8) (k : Fin 9) (h v : Fin 64) :
    val_main_v152 (F := Ideal) X A a (ix4 b k h v) = sampleRow (img X b) (fun n c i j => A (ix4 n c i j)) (fun n => a (ix1 n)) k h v := by
  pointwise [val_main_v122, val_main_v123, val_main_v124, val_main_v127, val_main_v128, val_main_v129, val_main_v130, val_main_v135, val_main_v136, val_main_v137, val_main_v138, val_main_v139, val_main_v140, val_main_v147, val_main_v148, val_main_v149, val_main_v150, val_main_v151, val_main_v152, val_main_c, val_main_c_5, val_main_c_6]
  rw [grid_val, row_val, offsets_at]
  rfl

/-- The sampled column. -/
theorem col_at (b : Fin 8) (k : Fin 9) (h v : Fin 64) :
    val_main_v158 (F := Ideal) X A a (ix4 b k h v) = sampleCol (img X b) (fun n c i j => A (ix4 n c i j)) (fun n => a (ix1 n)) k h v := by
  pointwise [val_main_v122, val_main_v125, val_main_v126, val_main_v131, val_main_v132, val_main_v133, val_main_v134, val_main_v141, val_main_v142, val_main_v143, val_main_v144, val_main_v145, val_main_v146, val_main_v153, val_main_v154, val_main_v155, val_main_v156, val_main_v157, val_main_v158, val_main_c_4, val_main_c_7, val_main_c_8]
  rw [grid_val, col_val, offsets_at]
  rfl

/-- The modulation. -/
theorem modulation_at (b : Fin 8) (k : Fin 9) (h v : Fin 64) :
    val_main_v121 (F := Ideal) X B β (ix4 b k h v) = modulation (img X b) (fun n c i j => B (ix4 n c i j)) (fun n => β (ix1 n)) k h v := by
  pointwise [val_main_v114, val_main_v115, val_main_v116, val_main_v117, val_main_v118, val_main_v119, val_main_v120, val_main_v121, val_main_cst_1, val_main_cst_2, val_main_cst_3]
  rw [modulations_at]
  rfl

end Cert.ReferenceIdeal.Val

end
-- ==== Proof.Ref.Gather.lean ====
module

public import proofs.«01_k».proof.Proof.Gen.ReferenceIdeal.Run
public import Idealize.ShloMosaic.Lib.ValueIdx
public import Idealize.ShloMosaic.Lib.Pointwise

@[expose] public section
set_option maxRecDepth 16384

/-! # The reference's gather, at an index -/

noncomputable section

namespace Cert.ReferenceIdeal.Val
open Cert.ReferenceIdeal Cert.ReferenceIdeal.Gen
open Idealize.ShloMosaic Idealize.ShloMosaic.TcCoe Idealize.ShloMosaic.StableHlo

/-- The gather's dimension numbers. -/
abbrev gd : GatherDims S8x256x4096 S8x36864x1 S8x256x36864 := gather_S8x256x4096_S8x36864x1_S8x256x36864_1_2_0_0_2_2_12561

/-- The gather: each batch takes its own image's element at the position asked for, brought into range. -/
theorem gather_at (Y : FVec Ideal S8x256x4096 .f32) (I : IVec S8x36864x1 32) (b : Fin 8) (c : Fin 256) (p : Fin 36864) :
    Host.gather gather_S8x256x4096_S8x36864x1_S8x256x36864_1_2_0_0_2_2_12561 Y I (ix3 b c p)
      = Y (ix3 b c ⟨min (I (ix3 b p 0)).toInt.toNat (4096 - 1), by omega⟩) := by
  unfold Host.gather
  refine congrArg Y (funext fun d => Fin.ext ?_)
  show gd.start (ix3 b c p) I d + gd.batchCoord (ix3 b c p) d + gd.offCoord (ix3 b c p) d = _
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [gd.start_batching _ _ _ (List.mem_singleton.mpr rfl),
      gd.offCoord_eq_zero _ _ (fun h => ((gd.mem_sKept _).mp h).2 (List.mem_singleton.mpr rfl)), Nat.zero_add, Nat.add_zero]
    unfold GatherDims.batchCoord
    rw [dif_pos (show (0 : Fin 3) ∈ gd.operandBatchingDims from List.mem_singleton.mpr rfl)]
    rfl
  · have hk : (1 : Fin 3) ∈ gd.sKept := (gd.mem_sKept _).mpr ⟨by decide, by decide⟩
    rw [gd.batchCoord_eq_zero _ _ (by decide)]
    unfold GatherDims.start GatherDims.offCoord
    rw [dif_neg (by decide), dif_pos hk]
    simp only [Nat.zero_add]
    rfl
  · rw [gd.batchCoord_eq_zero _ _ (by decide),
      gd.offCoord_eq_zero _ _ (fun h => ((gd.mem_sKept _).mp h).1 (List.mem_singleton.mpr rfl)), Nat.add_zero]
    unfold GatherDims.start
    rw [dif_pos (show (2 : Fin 3) ∈ gd.startIndexMap from List.mem_singleton.mpr rfl)]
    have hs : gd.siIdx (ix3 b c p) ⟨List.idxOf (2 : Fin 3) gd.startIndexMap, List.idxOf_lt_length_iff.2 (List.mem_singleton.mpr rfl)⟩ = ix3 b p 0 := by
      funext e
      refine Fin.ext ?_
      match e with
      | ⟨0, _⟩ => rfl
      | ⟨1, _⟩ => rfl
      | ⟨2, _⟩ => rfl
    rw [hs]
    rfl

end Cert.ReferenceIdeal.Val

end
-- ==== Proof.Ref.Sample.lean ====
module

public import proofs.«01_k».proof.Proof.Gen.ReferenceIdeal.Read
public import proofs.«01_k».proof.Proof.Math.Spec
public import proofs.«01_k».proof.Proof.Ref.Gather

@[expose] public section
set_option maxRecDepth 16384

/-! # The reference's bilinear samples, at an index -/

noncomputable section

namespace Cert.ReferenceIdeal.Val
open Cert.ReferenceIdeal Cert.ReferenceIdeal.Gen Cert.ReferenceIdeal.Read Cert.Math
open Idealize.ShloMosaic Idealize.ShloMosaic.TcCoe Idealize.ShloMosaic.StableHlo

variable (X : FVec Ideal S8x256x64x64 .f32) (A : FVec Ideal S18x256x3x3 .f32) (a : FVec Ideal S18 .f32)
  (B : FVec Ideal S9x256x3x3 .f32) (β : FVec Ideal S9 .f32) (W : FVec Ideal S256x256x3x3 .f32) (γ : FVec Ideal S256 .f32)

/-- The flattened image. -/
theorem flat_at (b : Fin 8) (c : Fin 256) (p : Fin 4096) :
    val_main_v167 (F := Ideal) X (ix3 b c p) = X (ix4 b c ⟨p.val / 64, by omega⟩ ⟨p.val % 64, by omega⟩) := by
  pointwise [val_main_v167]

/-- Channel `c` of image `b`, flattened. -/
def flat (b : Fin 8) (c : Fin 256) : Fin 4096 → EReal := fun p => X (ix4 b c ⟨p.val / 64, by omega⟩ ⟨p.val % 64, by omega⟩)

theorem index_0 (b : Fin 8) (k : Fin 9) (h v : Fin 64) :
    val_main_v199 (F := Ideal) X A a (ix3 b ⟨k.val * 4096 + h.val * 64 + v.val, by omega⟩ 0)
      = wrapIdx (below (val_main_v152 (F := Ideal) X A a (ix4 b k h v)))
          (below (val_main_v158 (F := Ideal) X A a (ix4 b k h v))) := by
  pointwise [val_main_v199, val_main_v198, val_main_v195, val_main_v193, val_main_v192, val_main_v191, val_main_v184, val_main_v183, val_main_v181, val_main_v159, val_main_v180, val_main_cst_15, val_main_v182, val_main_cst_16, val_main_v190, val_main_c_19, val_main_v189, val_main_v188, val_main_v186, val_main_v160, val_main_v185, val_main_cst_17, val_main_v187, val_main_cst_18, val_main_v194, val_main_c_20, val_main_v197, val_main_v196, val_main_c_21]
  rfl

theorem corner_0 (b : Fin 8) (c : Fin 256) (k : Fin 9) (h v : Fin 64) :
    val_main_v206 (F := Ideal) X A a (ix5 b c k h v)
      = corner (flat X b c) (below (val_main_v152 (F := Ideal) X A a (ix4 b k h v)))
          (below (val_main_v158 (F := Ideal) X A a (ix4 b k h v)))
          ((1 - ((val_main_v152 (F := Ideal) X A a (ix4 b k h v)) - below (val_main_v152 (F := Ideal) X A a (ix4 b k h v)))) * (1 - ((val_main_v158 (F := Ideal) X A a (ix4 b k h v)) - below (val_main_v158 (F := Ideal) X A a (ix4 b k h v))))) := by
  pointwise [val_main_v206, val_main_v201, val_main_v200, val_main_v159, val_main_v160, val_main_v205, val_main_v204, val_main_v203, val_main_v168, val_main_v163, val_main_v162, val_main_cst_9, val_main_v161, val_main_v166, val_main_v165, val_main_cst_10, val_main_v164, val_main_v202, val_main_v179, val_main_v176, val_main_v173, val_main_v170, val_main_v169, val_main_cst_11, val_main_v172, val_main_v171, val_main_cst_12, val_main_v175, val_main_v174, val_main_cst_13, val_main_v178, val_main_v177, val_main_cst_14, gather_at, flat_at, index_0]
  rfl

theorem index_1 (b : Fin 8) (k : Fin 9) (h v : Fin 64) :
    val_main_v240 (F := Ideal) X A a (ix3 b ⟨k.val * 4096 + h.val * 64 + v.val, by omega⟩ 0)
      = wrapIdx (below (val_main_v152 (F := Ideal) X A a (ix4 b k h v)))
          (below (val_main_v158 (F := Ideal) X A a (ix4 b k h v)) + 1) := by
  pointwise [val_main_v240, val_main_v239, val_main_v236, val_main_v234, val_main_v233, val_main_v232, val_main_v225, val_main_v224, val_main_v222, val_main_v159, val_main_v221, val_main_cst_27, val_main_v223, val_main_cst_28, val_main_v231, val_main_c_31, val_main_v230, val_main_v229, val_main_v227, val_main_v208, val_main_v160, val_main_v207, val_main_cst_22, val_main_v226, val_main_cst_29, val_main_v228, val_main_cst_30, val_main_v235, val_main_c_32, val_main_v238, val_main_v237, val_main_c_33]
  rfl

theorem corner_1 (b : Fin 8) (c : Fin 256) (k : Fin 9) (h v : Fin 64) :
    val_main_v247 (F := Ideal) X A a (ix5 b c k h v)
      = corner (flat X b c) (below (val_main_v152 (F := Ideal) X A a (ix4 b k h v)))
          (below (val_main_v158 (F := Ideal) X A a (ix4 b k h v)) + 1)
          ((1 - ((val_main_v152 (F := Ideal) X A a (ix4 b k h v)) - below (val_main_v152 (F := Ideal) X A a (ix4 b k h v)))) * ((val_main_v158 (F := Ideal) X A a (ix4 b k h v)) - below (val_main_v158 (F := Ideal) X A a (ix4 b k h v)))) := by
  pointwise [val_main_v247, val_main_v242, val_main_v241, val_main_v159, val_main_v208, val_main_v160, val_main_v207, val_main_cst_22, val_main_v246, val_main_v245, val_main_v244, val_main_v209, val_main_v163, val_main_v162, val_main_cst_9, val_main_v161, val_main_v164, val_main_v243, val_main_v220, val_main_v217, val_main_v214, val_main_v211, val_main_v210, val_main_cst_23, val_main_v213, val_main_v212, val_main_cst_24, val_main_v216, val_main_v215, val_main_cst_25, val_main_v219, val_main_v218, val_main_cst_26, gather_at, flat_at, index_1]
  rfl

theorem index_2 (b : Fin 8) (k : Fin 9) (h v : Fin 64) :
    val_main_v282 (F := Ideal) X A a (ix3 b ⟨k.val * 4096 + h.val * 64 + v.val, by omega⟩ 0)
      = wrapIdx (below (val_main_v152 (F := Ideal) X A a (ix4 b k h v)) + 1)
          (below (val_main_v158 (F := Ideal) X A a (ix4 b k h v))) := by
  pointwise [val_main_v282, val_main_v281, val_main_v278, val_main_v276, val_main_v275, val_main_v274, val_main_v267, val_main_v266, val_main_v264, val_main_v250, val_main_v159, val_main_v249, val_main_cst_34, val_main_v263, val_main_cst_39, val_main_v265, val_main_cst_40, val_main_v273, val_main_c_43, val_main_v272, val_main_v271, val_main_v269, val_main_v160, val_main_v268, val_main_cst_41, val_main_v270, val_main_cst_42, val_main_v277, val_main_c_44, val_main_v280, val_main_v279, val_main_c_45]
  rfl

theorem corner_2 (b : Fin 8) (c : Fin 256) (k : Fin 9) (h v : Fin 64) :
    val_main_v289 (F := Ideal) X A a (ix5 b c k h v)
      = corner (flat X b c) (below (val_main_v152 (F := Ideal) X A a (ix4 b k h v)) + 1)
          (below (val_main_v158 (F := Ideal) X A a (ix4 b k h v)))
          (((val_main_v152 (F := Ideal) X A a (ix4 b k h v)) - below (val_main_v152 (F := Ideal) X A a (ix4 b k h v))) * (1 - ((val_main_v158 (F := Ideal) X A a (ix4 b k h v)) - below (val_main_v158 (F := Ideal) X A a (ix4 b k h v))))) := by
  pointwise [val_main_v289, val_main_v284, val_main_v283, val_main_v250, val_main_v159, val_main_v249, val_main_cst_34, val_main_v160, val_main_v288, val_main_v287, val_main_v286, val_main_v251, val_main_v161, val_main_v166, val_main_v165, val_main_cst_10, val_main_v164, val_main_v285, val_main_v262, val_main_v259, val_main_v256, val_main_v253, val_main_v252, val_main_cst_35, val_main_v255, val_main_v254, val_main_cst_36, val_main_v258, val_main_v257, val_main_cst_37, val_main_v261, val_main_v260, val_main_cst_38, gather_at, flat_at, index_2]
  rfl

theorem index_3 (b : Fin 8) (k : Fin 9) (h v : Fin 64) :
    val_main_v326 (F := Ideal) X A a (ix3 b ⟨k.val * 4096 + h.val * 64 + v.val, by omega⟩ 0)
      = wrapIdx (below (val_main_v152 (F := Ideal) X A a (ix4 b k h v)) + 1)
          (below (val_main_v158 (F := Ideal) X A a (ix4 b k h v)) + 1) := by
  pointwise [val_main_v326, val_main_v325, val_main_v322, val_main_v320, val_main_v319, val_main_v318, val_main_v311, val_main_v310, val_main_v308, val_main_v292, val_main_v159, val_main_v291, val_main_cst_46, val_main_v307, val_main_cst_52, val_main_v309, val_main_cst_53, val_main_v317, val_main_c_56, val_main_v316, val_main_v315, val_main_v313, val_main_v294, val_main_v160, val_main_v293, val_main_cst_47, val_main_v312, val_main_cst_54, val_main_v314, val_main_cst_55, val_main_v321, val_main_c_57, val_main_v324, val_main_v323, val_main_c_58]
  rfl

theorem corner_3 (b : Fin 8) (c : Fin 256) (k : Fin 9) (h v : Fin 64) :
    val_main_v333 (F := Ideal) X A a (ix5 b c k h v)
      = corner (flat X b c) (below (val_main_v152 (F := Ideal) X A a (ix4 b k h v)) + 1)
          (below (val_main_v158 (F := Ideal) X A a (ix4 b k h v)) + 1)
          (((val_main_v152 (F := Ideal) X A a (ix4 b k h v)) - below (val_main_v152 (F := Ideal) X A a (ix4 b k h v))) * ((val_main_v158 (F := Ideal) X A a (ix4 b k h v)) - below (val_main_v158 (F := Ideal) X A a (ix4 b k h v)))) := by
  pointwise [val_main_v333, val_main_v328, val_main_v327, val_main_v292, val_main_v159, val_main_v291, val_main_cst_46, val_main_v294, val_main_v160, val_main_v293, val_main_cst_47, val_main_v332, val_main_v331, val_main_v330, val_main_v295, val_main_v161, val_main_v164, val_main_v329, val_main_v306, val_main_v303, val_main_v300, val_main_v297, val_main_v296, val_main_cst_48, val_main_v299, val_main_v298, val_main_cst_49, val_main_v302, val_main_v301, val_main_cst_50, val_main_v305, val_main_v304, val_main_cst_51, gather_at, flat_at, index_3]
  rfl

/-- The four corners together. -/
theorem sample_at (b : Fin 8) (c : Fin 256) (k : Fin 9) (h v : Fin 64) :
    val_main_v334 (F := Ideal) X A a (ix5 b c k h v)
      = bilinear (flat X b c) (val_main_v152 (F := Ideal) X A a (ix4 b k h v)) (val_main_v158 (F := Ideal) X A a (ix4 b k h v)) := by
  pointwise [val_main_v248, val_main_v290, val_main_v334]
  rw [corner_0, corner_1, corner_2, corner_3]
  rfl

end Cert.ReferenceIdeal.Val

end
-- ==== Proof.Ref.Out.lean ====
module

public import proofs.«01_k».proof.Proof.Gen.ReferenceIdeal.Read
public import proofs.«01_k».proof.Proof.Math.Spec
public import proofs.«01_k».proof.Proof.Ref.Conv
public import proofs.«01_k».proof.Proof.Ref.Sample

@[expose] public section
set_option maxRecDepth 16384

/-! # The reference's result, at an index -/

noncomputable section

namespace Cert.ReferenceIdeal.Val
open Cert.ReferenceIdeal Cert.ReferenceIdeal.Gen Cert.ReferenceIdeal.Read Cert.Math
open Idealize.ShloMosaic Idealize.ShloMosaic.TcCoe Idealize.ShloMosaic.StableHlo

variable (X : FVec Ideal S8x256x64x64 .f32) (A : FVec Ideal S18x256x3x3 .f32) (a : FVec Ideal S18 .f32)
  (B : FVec Ideal S9x256x3x3 .f32) (β : FVec Ideal S9 .f32) (W : FVec Ideal S256x256x3x3 .f32) (γ : FVec Ideal S256 .f32)

/-- The reference computes the deformable convolution of each image. -/
theorem reference_at (b : Fin 8) (o : Fin 256) (h v : Fin 64) :
    val_main_v343 (F := Ideal) X A a B β W γ (ix4 b o h v)
      = deform (img X b) (fun n c i j => A (ix4 n c i j)) (fun n => a (ix1 n)) (fun n c i j => B (ix4 n c i j)) (fun n => β (ix1 n))
          (fun o c i j => W (ix4 o c i j)) (fun o => γ (ix1 o)) o h v := by
  pointwise [val_main_v335, val_main_v336, val_main_v337, val_main_v338, val_main_v339, val_main_v340, val_main_v341, val_main_v342, val_main_v343]
  simp only [sample_at, row_at, col_at, modulation_at]
  rfl

end Cert.ReferenceIdeal.Val

end
-- ==== Proof.Ref.Result.lean ====
module

public import proofs.«01_k».proof.Proof.Ref.Out
public import proofs.«01_k».proof.Proof.Gen.ReferenceIdeal.Run

@[expose] public section
set_option maxRecDepth 16384

/-! # The reference's run: its result over the arguments, which it leaves unchanged -/

noncomputable section

namespace Cert.ReferenceIdeal.Val

open Cert.ReferenceIdeal Cert.ReferenceIdeal.Gen Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg)

/-- The result of a memory's arguments. -/
def outOf (c : Dev nD) : Buf (Elt Ideal) ((c.tc : Thread nD τ).loc main_v343) :=
  val_main_v343 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

theorem run_result : θ_run (defs (F := Ideal)) (onTc (τ := τ) (main (F := Ideal))) ⟨m, fun _ => 0, ρ⟩ (fun r => ∀ c : Dev nD,
      r.2.mem ((c.tc : Thread nD τ).loc main_v343) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (val_main_v343_eq (launchContents m c)), (h c).2⟩) (Cert.ReferenceIdeal.Value.run m ρ)

end Cert.ReferenceIdeal.Val

end
-- ==== Proof.Equal.lean ====
module

public import proofs.«01_k».proof.Defs
public import proofs.«01_k».proof.Proof.Ker.Result
public import proofs.«01_k».proof.Proof.Ref.Result

@[expose] public section
set_option maxRecDepth 16384

/-! # The kernel's result is the reference's

Both are the deformable convolution of `Math/Spec.lean`, at every index. -/

noncomputable section

namespace Cert.Equal

open Idealize.ShloMosaic

theorem results_eq (X : FVec Ideal Cert.KernelIdeal.S8x256x64x64 .f32) (A : FVec Ideal Cert.KernelIdeal.S18x256x3x3 .f32)
    (a : FVec Ideal Cert.KernelIdeal.S18 .f32) (B : FVec Ideal Cert.KernelIdeal.S9x256x3x3 .f32) (bm : FVec Ideal Cert.KernelIdeal.S9 .f32)
    (W : FVec Ideal Cert.KernelIdeal.S256x256x3x3 .f32) (γ : FVec Ideal Cert.KernelIdeal.S256 .f32) :
    (Cert.ReferenceIdeal.Read.val_main_v343 (F := Ideal) X A a B bm W γ : FVec Ideal Cert.KernelIdeal.S8x256x64x64 .f32)
      = Cert.KernelIdeal.Val.kernelOut X A a B bm W γ := by
  funext j
  obtain ⟨b, o, h, v, rfl⟩ : ∃ (b : Fin 8) (o : Fin 256) (h v : Fin 64), j = ix4 b o h v :=
    ⟨j 0, j 1, j 2, j 3, funext fun d => by fin_cases d <;> rfl⟩
  exact (Cert.ReferenceIdeal.Val.reference_at X A a B bm W γ b o h v).trans (Cert.KernelIdeal.Val.kernel_at X A a B bm W γ b o h v).symm

/-- From memories that agree on the arguments the two runs end with one result, and the arguments unchanged. -/
theorem algebraic : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Val.outOf m, Cert.KernelIdeal.Val.run_result m g, ?_⟩
  refine (θ_run _ _ _).mono (fun r h c => ⟨(h c).1.trans ?_, (h c).2⟩) (Cert.ReferenceIdeal.Val.run_result m' g')
  obtain ⟨e0, e1, e2, e3, e4, e5, e6⟩ := hargs c
  unfold Cert.ReferenceIdeal.Val.outOf
  rw [e0, e1, e2, e3, e4, e5, e6]
  exact results_eq _ _ _ _ _ _ _

end Cert.Equal

end
-- ==== Proof.lean ====
module

public import proofs.«01_k».proof.Defs
public import proofs.«01_k».proof.Proof.KerBits.Launch
public import proofs.«01_k».proof.Proof.Ker.Launch
public import proofs.«01_k».proof.Proof.Ref.Frame
public import proofs.«01_k».proof.Proof.Equal

@[expose] public section

/-! # The certificate

The frames of the three programs, the idealization's record and the equality of the results, put together. -/

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Body.frame m g,
  fun m g _ => Cert.KernelIdeal.Body.frame m g,
  fun m g _ => Cert.ReferenceIdeal.Hand.frame m g,
  trivial,
  Cert.Equal.algebraic⟩

end Cert.Proof

end
